-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S96x1x5x24 : Shape := ⟨4, ![96, 1, 5, 24]⟩
abbrev S96x1x5x128 : Shape := ⟨4, ![96, 1, 5, 128]⟩
abbrev S96x1024x2x24 : Shape := ⟨4, ![96, 1024, 2, 24]⟩
abbrev S96x1024 : Shape := ⟨2, ![96, 1024]⟩
abbrev S96x1024x2x128 : Shape := ⟨4, ![96, 1024, 2, 128]⟩
abbrev S96x1024x3x24 : Shape := ⟨4, ![96, 1024, 3, 24]⟩
abbrev S96x1024x3x128 : Shape := ⟨4, ![96, 1024, 3, 128]⟩
abbrev S96 : Shape := ⟨1, ![96]⟩
abbrev S96x2x24 : Shape := ⟨3, ![96, 2, 24]⟩
abbrev S96x2x128 : Shape := ⟨3, ![96, 2, 128]⟩
abbrev S96x3x24 : Shape := ⟨3, ![96, 3, 24]⟩
abbrev S96x3x128 : Shape := ⟨3, ![96, 3, 128]⟩
abbrev S_ : Shape := ⟨0, ![]⟩

class Facts : Prop where
  bcast_S_S96x1x5x24 : S_.BroadcastsInDim S96x1x5x24 (![] : Fin 0 → Fin S96x1x5x24.rank)
  reducesTo_S96x1x5x24_S_d0_1_2_3 : S96x1x5x24.ReducesTo [0, 1, 2, 3] S_
  h_S_ : 0 < S_.numel
  bcast_S_S96x1x5x128 : S_.BroadcastsInDim S96x1x5x128 (![] : Fin 0 → Fin S96x1x5x128.rank)
  reducesTo_S96x1x5x128_S_d0_1_2_3 : S96x1x5x128.ReducesTo [0, 1, 2, 3] S_
  bcast_S_S96x1024x2x128 : S_.BroadcastsInDim S96x1024x2x128 (![] : Fin 0 → Fin S96x1024x2x128.rank)
  reducesTo_S96x1024x2x128_S_d0_1_2_3 : S96x1024x2x128.ReducesTo [0, 1, 2, 3] S_
  bcast_S_S96x2x128 : S_.BroadcastsInDim S96x2x128 (![] : Fin 0 → Fin S96x2x128.rank)
  reducesTo_S96x2x128_S_d0_1_2 : S96x2x128.ReducesTo [0, 1, 2] S_

variable [Facts]

def fn_part1 {F : FTy → Type} [FloatOps F] (main_arg12 : FVec F S96x2x128 .bf16) (main_v12 : IVec S_ 1) (main_v15 : IVec S_ 1) : IVec S_ 1 :=
  let main_v16 : IVec S_ 1 := andi main_v12 main_v15
  let main_v17 : FVec F S96x2x128 .bf16 := Host.absf main_arg12
  let main_cst_6 : FVec F S_ .bf16 := constant S_ .bf16 0x7F80#16
  let main_v18 : FVec F S96x2x128 .bf16 := broadcastInDim S96x2x128 ![] bcast_S_S96x2x128 main_cst_6
  let main_v19 : IVec S96x2x128 1 := cmpf .olt main_v17 main_v18
  let main_c_7 : IVec S_ 1 := constantI S_ 1 1#1
  let main_v20 : IVec S_ 1 := (fun x v => Host.reduce IntOp.andi x v reducesTo_S96x2x128_S_d0_1_2 h_S_) main_v19 main_c_7
  let main_v21 : IVec S_ 1 := andi main_v16 main_v20
  main_v21

def fn {F : FTy → Type} [FloatOps F] (main_arg0 : FVec F S96x1x5x24 .bf16) (main_arg1 : FVec F S96x1x5x128 .bf16) (main_arg2 : FVec F S96x1024x2x24 .fp8e4m3) (main_arg3 : FVec F S96x1024 .f32) (main_arg4 : IVec S96x1024x2x128 8) (main_arg5 : FVec F S96x1024 .f32) (main_arg6 : FVec F S96x1024x3x24 .fp8e4m3) (main_arg7 : FVec F S96x1024 .f32) (main_arg8 : FVec F S96x1024x3x128 .fp8e4m3) (main_arg9 : FVec F S96x1024 .f32) (main_arg10 : IVec S96 32) (main_arg11 : FVec F S96x2x24 .bf16) (main_arg12 : FVec F S96x2x128 .bf16) (main_arg13 : FVec F S96x3x24 .bf16) (main_arg14 : FVec F S96x3x128 .bf16) : IVec S_ 1 :=
  let main_v0 : FVec F S96x1x5x24 .bf16 := Host.absf main_arg0
  let main_cst : FVec F S_ .bf16 := constant S_ .bf16 0x7F80#16
  let main_v1 : FVec F S96x1x5x24 .bf16 := broadcastInDim S96x1x5x24 ![] bcast_S_S96x1x5x24 main_cst
  let main_v2 : IVec S96x1x5x24 1 := cmpf .olt main_v0 main_v1
  let main_c : IVec S_ 1 := constantI S_ 1 1#1
  let main_v3 : IVec S_ 1 := (fun x v => Host.reduce IntOp.andi x v reducesTo_S96x1x5x24_S_d0_1_2_3 h_S_) main_v2 main_c
  let main_v4 : FVec F S96x1x5x128 .bf16 := Host.absf main_arg1
  let main_cst_0 : FVec F S_ .bf16 := constant S_ .bf16 0x7F80#16
  let main_v5 : FVec F S96x1x5x128 .bf16 := broadcastInDim S96x1x5x128 ![] bcast_S_S96x1x5x128 main_cst_0
  let main_v6 : IVec S96x1x5x128 1 := cmpf .olt main_v4 main_v5
  let main_c_1 : IVec S_ 1 := constantI S_ 1 1#1
  let main_v7 : IVec S_ 1 := (fun x v => Host.reduce IntOp.andi x v reducesTo_S96x1x5x128_S_d0_1_2_3 h_S_) main_v6 main_c_1
  let main_v8 : IVec S_ 1 := andi main_v3 main_v7
  let main_c_2 : IVec S_ 8 := constantI S_ 8 127#8
  let main_v9 : IVec S96x1024x2x128 8 := broadcastInDim S96x1024x2x128 ![] bcast_S_S96x1024x2x128 main_c_2
  let main_v10 : IVec S96x1024x2x128 1 := cmpi .ne main_arg4 main_v9
  let main_c_3 : IVec S_ 1 := constantI S_ 1 1#1
  let main_v11 : IVec S_ 1 := (fun x v => Host.reduce IntOp.andi x v reducesTo_S96x1024x2x128_S_d0_1_2_3 h_S_) main_v10 main_c_3
  let main_v12 : IVec S_ 1 := andi main_v8 main_v11
  let main_c_4 : IVec S_ 8 := constantI S_ 8 255#8
  let main_v13 : IVec S96x1024x2x128 8 := broadcastInDim S96x1024x2x128 ![] bcast_S_S96x1024x2x128 main_c_4
  let main_v14 : IVec S96x1024x2x128 1 := cmpi .ne main_arg4 main_v13
  let main_c_5 : IVec S_ 1 := constantI S_ 1 1#1
  let main_v15 : IVec S_ 1 := (fun x v => Host.reduce IntOp.andi x v reducesTo_S96x1024x2x128_S_d0_1_2_3 h_S_) main_v14 main_c_5
  fn_part1 (F := F) main_arg12 main_v12 main_v15
-- ==== Kernel.lean ====
abbrev S96x1x5x24 : Shape := ⟨4, ![96, 1, 5, 24]⟩
abbrev S96x1x5x128 : Shape := ⟨4, ![96, 1, 5, 128]⟩
abbrev S96x1024x2x24 : Shape := ⟨4, ![96, 1024, 2, 24]⟩
abbrev S96x1024 : Shape := ⟨2, ![96, 1024]⟩
abbrev S96x1024x2x128 : Shape := ⟨4, ![96, 1024, 2, 128]⟩
abbrev S96x1024x3x24 : Shape := ⟨4, ![96, 1024, 3, 24]⟩
abbrev S96x1024x3x128 : Shape := ⟨4, ![96, 1024, 3, 128]⟩
abbrev S96 : Shape := ⟨1, ![96]⟩
abbrev S96x2x24 : Shape := ⟨3, ![96, 2, 24]⟩
abbrev S96x2x128 : Shape := ⟨3, ![96, 2, 128]⟩
abbrev S96x3x24 : Shape := ⟨3, ![96, 3, 24]⟩
abbrev S96x3x128 : Shape := ⟨3, ![96, 3, 128]⟩
abbrev S96x2x24x1024 : Shape := ⟨4, ![96, 2, 24, 1024]⟩
abbrev S96x2x1024x128 : Shape := ⟨4, ![96, 2, 1024, 128]⟩
abbrev S96x3x24x1024 : Shape := ⟨4, ![96, 3, 24, 1024]⟩
abbrev S96x3x1024x128 : Shape := ⟨4, ![96, 3, 1024, 128]⟩
abbrev S96x1x1024 : Shape := ⟨3, ![96, 1, 1024]⟩
abbrev S96x5x24 : Shape := ⟨3, ![96, 5, 24]⟩
abbrev S96x5x128 : Shape := ⟨3, ![96, 5, 128]⟩
abbrev S96x24x128 : Shape := ⟨3, ![96, 24, 128]⟩
abbrev S1x5x24 : Shape := ⟨3, ![1, 5, 24]⟩
abbrev S1x5x128 : Shape := ⟨3, ![1, 5, 128]⟩
abbrev S1x2x24x1024 : Shape := ⟨4, ![1, 2, 24, 1024]⟩
abbrev S1x1x1024 : Shape := ⟨3, ![1, 1, 1024]⟩
abbrev S1x2x1024x128 : Shape := ⟨4, ![1, 2, 1024, 128]⟩
abbrev S1x3x24x1024 : Shape := ⟨4, ![1, 3, 24, 1024]⟩
abbrev S1x3x1024x128 : Shape := ⟨4, ![1, 3, 1024, 128]⟩
abbrev S1x2x24 : Shape := ⟨3, ![1, 2, 24]⟩
abbrev S1x2x128 : Shape := ⟨3, ![1, 2, 128]⟩
abbrev S1x3x24 : Shape := ⟨3, ![1, 3, 24]⟩
abbrev S1x3x128 : Shape := ⟨3, ![1, 3, 128]⟩
abbrev S1x24x128 : Shape := ⟨3, ![1, 24, 128]⟩
abbrev S1 : Shape := ⟨1, ![1]⟩
abbrev S5x24 : Shape := ⟨2, ![5, 24]⟩
abbrev S5x128 : Shape := ⟨2, ![5, 128]⟩
abbrev S24x5 : Shape := ⟨2, ![24, 5]⟩
abbrev S24x1 : Shape := ⟨2, ![24, 1]⟩
abbrev S1x128 : Shape := ⟨2, ![1, 128]⟩
abbrev S24x128 : Shape := ⟨2, ![24, 128]⟩
abbrev S72x128 : Shape := ⟨2, ![72, 128]⟩
abbrev S24x1024 : Shape := ⟨2, ![24, 1024]⟩
abbrev S1x1x1024x128 : Shape := ⟨4, ![1, 1, 1024, 128]⟩
abbrev S1024x128 : Shape := ⟨2, ![1024, 128]⟩
abbrev S72x1024 : Shape := ⟨2, ![72, 1024]⟩
abbrev S1x1x24x1024 : Shape := ⟨4, ![1, 1, 24, 1024]⟩
abbrev S1x1024 : Shape := ⟨2, ![1, 1024]⟩
abbrev S2x24 : Shape := ⟨2, ![2, 24]⟩
abbrev S24x2 : Shape := ⟨2, ![24, 2]⟩
abbrev S1x1x128 : Shape := ⟨3, ![1, 1, 128]⟩
abbrev S24 : Shape := ⟨1, ![24]⟩
abbrev S3x24 : Shape := ⟨2, ![3, 24]⟩
abbrev S24x3 : Shape := ⟨2, ![24, 3]⟩
abbrev S96x1x3072 : Shape := ⟨3, ![96, 1, 3072]⟩

abbrev nBuf : Space → Nat
  | .hbm => 28
  | .vmem => 30
  | .smem => 1
  | _ => 0

abbrev bufTy : (tb : Table) → Fin (tcTables nBuf tb) → BufTy
  | .hbm, ⟨0, _⟩ => ⟨S96x1x5x24, .bf16⟩
  | .hbm, ⟨1, _⟩ => ⟨S96x1x5x128, .bf16⟩
  | .hbm, ⟨2, _⟩ => ⟨S96x1024x2x24, .fp8e4m3⟩
  | .hbm, ⟨3, _⟩ => ⟨S96x1024, .f32⟩
  | .hbm, ⟨4, _⟩ => ⟨S96x1024x2x128, .i8⟩
  | .hbm, ⟨5, _⟩ => ⟨S96x1024, .f32⟩
  | .hbm, ⟨6, _⟩ => ⟨S96x1024x3x24, .fp8e4m3⟩
  | .hbm, ⟨7, _⟩ => ⟨S96x1024, .f32⟩
  | .hbm, ⟨8, _⟩ => ⟨S96x1024x3x128, .fp8e4m3⟩
  | .hbm, ⟨9, _⟩ => ⟨S96x1024, .f32⟩
  | .hbm, ⟨10, _⟩ => ⟨S96, .i32⟩
  | .hbm, ⟨11, _⟩ => ⟨S96x2x24, .bf16⟩
  | .hbm, ⟨12, _⟩ => ⟨S96x2x128, .bf16⟩
  | .hbm, ⟨13, _⟩ => ⟨S96x3x24, .bf16⟩
  | .hbm, ⟨14, _⟩ => ⟨S96x3x128, .bf16⟩
  | .hbm, ⟨15, _⟩ => ⟨S96x1024x2x128, .fp8e4m3⟩
  | .hbm, ⟨16, _⟩ => ⟨S96x2x24x1024, .fp8e4m3⟩
  | .hbm, ⟨17, _⟩ => ⟨S96x2x1024x128, .fp8e4m3⟩
  | .hbm, ⟨18, _⟩ => ⟨S96x3x24x1024, .fp8e4m3⟩
  | .hbm, ⟨19, _⟩ => ⟨S96x3x1024x128, .fp8e4m3⟩
  | .hbm, ⟨20, _⟩ => ⟨S96x1x1024, .f32⟩
  | .hbm, ⟨21, _⟩ => ⟨S96x1x1024, .f32⟩
  | .hbm, ⟨22, _⟩ => ⟨S96x1x1024, .f32⟩
  | .hbm, ⟨23, _⟩ => ⟨S96x1x1024, .f32⟩
  | .hbm, ⟨24, _⟩ => ⟨S96x5x24, .bf16⟩
  | .hbm, ⟨25, _⟩ => ⟨S96x5x128, .bf16⟩
  | .hbm, ⟨26, _⟩ => ⟨S96x24x128, .bf16⟩
  | .hbm, ⟨27, _⟩ => ⟨S96x1x3072, .bf16⟩
  | .local _ .vmem, ⟨0, _⟩ => ⟨S1x5x24, .bf16⟩
  | .local _ .vmem, ⟨1, _⟩ => ⟨S1x5x24, .bf16⟩
  | .local _ .vmem, ⟨2, _⟩ => ⟨S1x5x128, .bf16⟩
  | .local _ .vmem, ⟨3, _⟩ => ⟨S1x5x128, .bf16⟩
  | .local _ .vmem, ⟨4, _⟩ => ⟨S1x2x24x1024, .fp8e4m3⟩
  | .local _ .vmem, ⟨5, _⟩ => ⟨S1x2x24x1024, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x2x1024x128, .fp8e4m3⟩
  | .local _ .vmem, ⟨9, _⟩ => ⟨S1x2x1024x128, .fp8e4m3⟩
  | .local _ .vmem, ⟨10, _⟩ => ⟨S1x1x1024, .f32⟩
  | .local _ .vmem, ⟨11, _⟩ => ⟨S1x1x1024, .f32⟩
  | .local _ .vmem, ⟨12, _⟩ => ⟨S1x3x24x1024, .fp8e4m3⟩
  | .local _ .vmem, ⟨13, _⟩ => ⟨S1x3x24x1024, .fp8e4m3⟩
  | .local _ .vmem, ⟨14, _⟩ => ⟨S1x1x1024, .f32⟩
  | .local _ .vmem, ⟨15, _⟩ => ⟨S1x1x1024, .f32⟩
  | .local _ .vmem, ⟨16, _⟩ => ⟨S1x3x1024x128, .fp8e4m3⟩
  | .local _ .vmem, ⟨17, _⟩ => ⟨S1x3x1024x128, .fp8e4m3⟩
  | .local _ .vmem, ⟨18, _⟩ => ⟨S1x1x1024, .f32⟩
  | .local _ .vmem, ⟨19, _⟩ => ⟨S1x1x1024, .f32⟩
  | .local _ .vmem, ⟨20, _⟩ => ⟨S1x2x24, .bf16⟩
  | .local _ .vmem, ⟨21, _⟩ => ⟨S1x2x24, .bf16⟩
  | .local _ .vmem, ⟨22, _⟩ => ⟨S1x2x128, .bf16⟩
  | .local _ .vmem, ⟨23, _⟩ => ⟨S1x2x128, .bf16⟩
  | .local _ .vmem, ⟨24, _⟩ => ⟨S1x3x24, .bf16⟩
  | .local _ .vmem, ⟨25, _⟩ => ⟨S1x3x24, .bf16⟩
  | .local _ .vmem, ⟨26, _⟩ => ⟨S1x3x128, .bf16⟩
  | .local _ .vmem, ⟨27, _⟩ => ⟨S1x3x128, .bf16⟩
  | .local _ .vmem, ⟨28, _⟩ => ⟨S1x24x128, .bf16⟩
  | .local _ .vmem, ⟨29, _⟩ => ⟨S1x24x128, .bf16⟩
  | .local _ .smem, ⟨0, _⟩ => ⟨S96, .i32⟩
  | _, _ => ⟨S96x1x5x24, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![96], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x5x24 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x24x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x24x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1024x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x24 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x24 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x24x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S96x1x5x24 : Shape := ⟨4, ![96, 1, 5, 24]⟩
abbrev S96x1x5x128 : Shape := ⟨4, ![96, 1, 5, 128]⟩
abbrev S96x1024x2x24 : Shape := ⟨4, ![96, 1024, 2, 24]⟩
abbrev S96x1024 : Shape := ⟨2, ![96, 1024]⟩
abbrev S96x1024x2x128 : Shape := ⟨4, ![96, 1024, 2, 128]⟩
abbrev S96x1024x3x24 : Shape := ⟨4, ![96, 1024, 3, 24]⟩
abbrev S96x1024x3x128 : Shape := ⟨4, ![96, 1024, 3, 128]⟩
abbrev S96 : Shape := ⟨1, ![96]⟩
abbrev S96x2x24 : Shape := ⟨3, ![96, 2, 24]⟩
abbrev S96x2x128 : Shape := ⟨3, ![96, 2, 128]⟩
abbrev S96x3x24 : Shape := ⟨3, ![96, 3, 24]⟩
abbrev S96x3x128 : Shape := ⟨3, ![96, 3, 128]⟩
abbrev S96x5x24 : Shape := ⟨3, ![96, 5, 24]⟩
abbrev S96x5x128 : Shape := ⟨3, ![96, 5, 128]⟩
abbrev S96x5x1024x2 : Shape := ⟨4, ![96, 5, 1024, 2]⟩
abbrev S96x24x1024x2 : Shape := ⟨4, ![96, 24, 1024, 2]⟩
abbrev S96x24x1024 : Shape := ⟨3, ![96, 24, 1024]⟩
abbrev S96x1x1024 : Shape := ⟨3, ![96, 1, 1024]⟩
abbrev S_ : Shape := ⟨0, ![]⟩
abbrev S1024 : Shape := ⟨1, ![1024]⟩
abbrev S1x1024 : Shape := ⟨2, ![1, 1024]⟩
abbrev S96x1 : Shape := ⟨2, ![96, 1]⟩
abbrev S96x5x2 : Shape := ⟨3, ![96, 5, 2]⟩
abbrev S96x24 : Shape := ⟨2, ![96, 24]⟩
abbrev S96x24x1 : Shape := ⟨3, ![96, 24, 1]⟩
abbrev S96x24x1024x1 : Shape := ⟨4, ![96, 24, 1024, 1]⟩
abbrev S96x1x1024x1 : Shape := ⟨4, ![96, 1, 1024, 1]⟩
abbrev S96x24x1024x3 : Shape := ⟨4, ![96, 24, 1024, 3]⟩
abbrev S96x24x128 : Shape := ⟨3, ![96, 24, 128]⟩
abbrev S96x1x24 : Shape := ⟨3, ![96, 1, 24]⟩
abbrev S96x1x3072 : Shape := ⟨3, ![96, 1, 3072]⟩

abbrev nBuf : Space → Nat
  | .hbm => 93
  | .vmem => 8
  | .smem => 0
  | _ => 0

abbrev bufTy : (tb : Table) → Fin (tcTables nBuf tb) → BufTy
  | .hbm, ⟨0, _⟩ => ⟨S96x1x5x24, .bf16⟩
  | .hbm, ⟨1, _⟩ => ⟨S96x1x5x128, .bf16⟩
  | .hbm, ⟨2, _⟩ => ⟨S96x1024x2x24, .fp8e4m3⟩
  | .hbm, ⟨3, _⟩ => ⟨S96x1024, .f32⟩
  | .hbm, ⟨4, _⟩ => ⟨S96x1024x2x128, .i8⟩
  | .hbm, ⟨5, _⟩ => ⟨S96x1024, .f32⟩
  | .hbm, ⟨6, _⟩ => ⟨S96x1024x3x24, .fp8e4m3⟩
  | .hbm, ⟨7, _⟩ => ⟨S96x1024, .f32⟩
  | .hbm, ⟨8, _⟩ => ⟨S96x1024x3x128, .fp8e4m3⟩
  | .hbm, ⟨9, _⟩ => ⟨S96x1024, .f32⟩
  | .hbm, ⟨10, _⟩ => ⟨S96, .i32⟩
  | .hbm, ⟨11, _⟩ => ⟨S96x2x24, .bf16⟩
  | .hbm, ⟨12, _⟩ => ⟨S96x2x128, .bf16⟩
  | .hbm, ⟨13, _⟩ => ⟨S96x3x24, .bf16⟩
  | .hbm, ⟨14, _⟩ => ⟨S96x3x128, .bf16⟩
  | .hbm, ⟨15, _⟩ => ⟨S96x1024x2x128, .fp8e4m3⟩
  | .hbm, ⟨16, _⟩ => ⟨S96x1024x2x24, .f32⟩
  | .hbm, ⟨17, _⟩ => ⟨S96x1024x2x128, .bf16⟩
  | .hbm, ⟨18, _⟩ => ⟨S96x1024x3x24, .f32⟩
  | .hbm, ⟨19, _⟩ => ⟨S96x1024x3x128, .bf16⟩
  | .hbm, ⟨20, _⟩ => ⟨S96x5x24, .bf16⟩
  | .hbm, ⟨21, _⟩ => ⟨S96x5x128, .bf16⟩
  | .hbm, ⟨22, _⟩ => ⟨S96x5x24, .f32⟩
  | .hbm, ⟨23, _⟩ => ⟨S96x5x1024x2, .f32⟩
  | .hbm, ⟨24, _⟩ => ⟨S96x24x1024x2, .f32⟩
  | .hbm, ⟨25, _⟩ => ⟨S96x24x1024, .f32⟩
  | .hbm, ⟨26, _⟩ => ⟨S96x1024, .f32⟩
  | .hbm, ⟨27, _⟩ => ⟨S96x1x1024, .f32⟩
  | .hbm, ⟨28, _⟩ => ⟨S96x24x1024, .f32⟩
  | .hbm, ⟨29, _⟩ => ⟨S96x24x1024, .f32⟩
  | .hbm, ⟨30, _⟩ => ⟨S_, .f32⟩
  | .hbm, ⟨31, _⟩ => ⟨S96x24x1024, .f32⟩
  | .hbm, ⟨32, _⟩ => ⟨S96x24x1024, .f32⟩
  | .hbm, ⟨33, _⟩ => ⟨S1024, .i32⟩
  | .hbm, ⟨34, _⟩ => ⟨S1x1024, .i32⟩
  | .hbm, ⟨35, _⟩ => ⟨S96x1, .i32⟩
  | .hbm, ⟨36, _⟩ => ⟨S96x1024, .i32⟩
  | .hbm, ⟨37, _⟩ => ⟨S96x1024, .i32⟩
  | .hbm, ⟨38, _⟩ => ⟨S96x1024, .i1⟩
  | .hbm, ⟨39, _⟩ => ⟨S96x1x1024, .i1⟩
  | .hbm, ⟨40, _⟩ => ⟨S_, .f32⟩
  | .hbm, ⟨41, _⟩ => ⟨S_, .f32⟩
  | .hbm, ⟨42, _⟩ => ⟨S96x24x1024, .i1⟩
  | .hbm, ⟨43, _⟩ => ⟨S96x24x1024, .f32⟩
  | .hbm, ⟨44, _⟩ => ⟨S96x24x1024, .f32⟩
  | .hbm, ⟨45, _⟩ => ⟨S96x5x2, .f32⟩
  | .hbm, ⟨46, _⟩ => ⟨S96x2x24, .f32⟩
  | .hbm, ⟨47, _⟩ => ⟨S96x2x24, .f32⟩
  | .hbm, ⟨48, _⟩ => ⟨S96x24, .f32⟩
  | .hbm, ⟨49, _⟩ => ⟨S_, .f32⟩
  | .hbm, ⟨50, _⟩ => ⟨S96x24, .f32⟩
  | .hbm, ⟨51, _⟩ => ⟨S96x24, .f32⟩
  | .hbm, ⟨52, _⟩ => ⟨S_, .f32⟩
  | .hbm, ⟨53, _⟩ => ⟨S96x24, .f32⟩
  | .hbm, ⟨54, _⟩ => ⟨S96x24, .f32⟩
  | .hbm, ⟨55, _⟩ => ⟨S96x24x1, .f32⟩
  | .hbm, ⟨56, _⟩ => ⟨S96x24x1024, .f32⟩
  | .hbm, ⟨57, _⟩ => ⟨S96x24x1024, .f32⟩
  | .hbm, ⟨58, _⟩ => ⟨S96x24x1024, .f32⟩
  | .hbm, ⟨59, _⟩ => ⟨S96x24, .f32⟩
  | .hbm, ⟨60, _⟩ => ⟨S96x24, .f32⟩
  | .hbm, ⟨61, _⟩ => ⟨S_, .f32⟩
  | .hbm, ⟨62, _⟩ => ⟨S96x24, .f32⟩
  | .hbm, ⟨63, _⟩ => ⟨S96x24, .f32⟩
  | .hbm, ⟨64, _⟩ => ⟨S_, .f32⟩
  | .hbm, ⟨65, _⟩ => ⟨S96x24, .f32⟩
  | .hbm, ⟨66, _⟩ => ⟨S96x24, .f32⟩
  | .hbm, ⟨67, _⟩ => ⟨S96x24x1, .f32⟩
  | .hbm, ⟨68, _⟩ => ⟨S96x24x1024, .f32⟩
  | .hbm, ⟨69, _⟩ => ⟨S96x24x1024, .f32⟩
  | .hbm, ⟨70, _⟩ => ⟨S96x24, .f32⟩
  | .hbm, ⟨71, _⟩ => ⟨S96x24x1024x1, .f32⟩
  | .hbm, ⟨72, _⟩ => ⟨S96x1024, .f32⟩
  | .hbm, ⟨73, _⟩ => ⟨S96x1x1024x1, .f32⟩
  | .hbm, ⟨74, _⟩ => ⟨S96x24x1024x1, .f32⟩
  | .hbm, ⟨75, _⟩ => ⟨S96x24x1024x1, .f32⟩
  | .hbm, ⟨76, _⟩ => ⟨S96x24x1024x3, .f32⟩
  | .hbm, ⟨77, _⟩ => ⟨S96x24x1024x3, .f32⟩
  | .hbm, ⟨78, _⟩ => ⟨S96x24x1024x3, .f32⟩
  | .hbm, ⟨79, _⟩ => ⟨S96x24x1024x3, .bf16⟩
  | .hbm, ⟨80, _⟩ => ⟨S96x24x128, .f32⟩
  | .hbm, ⟨81, _⟩ => ⟨S96x1x24, .f32⟩
  | .hbm, ⟨82, _⟩ => ⟨S96x3x24, .f32⟩
  | .hbm, ⟨83, _⟩ => ⟨S96x3x24, .f32⟩
  | .hbm, ⟨84, _⟩ => ⟨S96x3x24, .f32⟩
  | .hbm, ⟨85, _⟩ => ⟨S96x3x128, .f32⟩
  | .hbm, ⟨86, _⟩ => ⟨S96x24x128, .f32⟩
  | .hbm, ⟨87, _⟩ => ⟨S96x24x128, .f32⟩
  | .hbm, ⟨88, _⟩ => ⟨S_, .f32⟩
  | .hbm, ⟨89, _⟩ => ⟨S96x24x128, .f32⟩
  | .hbm, ⟨90, _⟩ => ⟨S96x24x128, .f32⟩
  | .hbm, ⟨91, _⟩ => ⟨S96x1x3072, .f32⟩
  | .hbm, ⟨92, _⟩ => ⟨S96x1x3072, .bf16⟩
  | .local _ .vmem, ⟨0, _⟩ => ⟨S96x1024x2x24, .fp8e4m3⟩
  | .local _ .vmem, ⟨1, _⟩ => ⟨S96x1024x2x128, .fp8e4m3⟩
  | .local _ .vmem, ⟨2, _⟩ => ⟨S96x1024x3x24, .fp8e4m3⟩
  | .local _ .vmem, ⟨3, _⟩ => ⟨S96x1024x3x128, .fp8e4m3⟩
  | .local _ .vmem, ⟨4, _⟩ => ⟨S96x1024x2x24, .f32⟩
  | .local _ .vmem, ⟨5, _⟩ => ⟨S96x1024x2x128, .bf16⟩
  | .local _ .vmem, ⟨6, _⟩ => ⟨S96x1024x3x24, .f32⟩
  | .local _ .vmem, ⟨7, _⟩ => ⟨S96x1024x3x128, .bf16⟩
  | _, _ => ⟨S96x1x5x24, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S96x1024x2x24 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024x3x24 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1024x3x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1024x2x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1024x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1024x3x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x1024x3x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
/-
  ONE BATCH ROW OF THE PROBLEM over the extended reals: what the kernel computes for it (`kOut`), what the reference
  computes for it (`rOut`), and that the two are equal when the key products' operands are real numbers (`kOut_eq_rOut`).
  The two differ in the scores: the kernel forms the query first and contracts it with the keys, the reference contracts
  the query factors with the key factors first. From the scores on they differ in the order of the sums only.
-/
module

public import Idealize.ShloMosaic.Lib.Pointwise

@[expose] public section

noncomputable section

namespace Cert.Attn

open Idealize.ShloMosaic

/-- The operands of one batch row: query factors, cached key and value factors with their scales, the cache length,
    and the new token's key and value factors. -/
structure Row where
  xa : Fin 5 → Fin 24 → EReal
  xb : Fin 5 → Fin 128 → EReal
  ak : Fin 2 → Fin 24 → Fin 1024 → EReal
  aks : Fin 1024 → EReal
  bk : Fin 2 → Fin 1024 → Fin 128 → EReal
  bks : Fin 1024 → EReal
  av : Fin 3 → Fin 24 → Fin 1024 → EReal
  avs : Fin 1024 → EReal
  bv : Fin 3 → Fin 1024 → Fin 128 → EReal
  bvs : Fin 1024 → EReal
  len : BitVec 32
  akn : Fin 2 → Fin 24 → EReal
  bkn : Fin 2 → Fin 128 → EReal
  avn : Fin 3 → Fin 24 → EReal
  bvn : Fin 3 → Fin 128 → EReal

/-- The scores' constant factor. -/
abbrev keyMult : EReal := Ideal.ofBits .f32 0x3C10D0C3#32
/-- The fill value of a masked score. -/
abbrev fill : EReal := Ideal.ofBits .f32 0xFF800000#32
/-- The number of value factors, as the programs write it. -/
abbrev three : EReal := Ideal.ofBits .f32 0x40400000#32

/-! ## From the scores on -/

/-- A score where the position is before the cache length, the fill value elsewhere. -/
def masked (n : BitVec 32) (s : Fin 1024 → EReal) (t : Fin 1024) : EReal :=
  Scalar.select (IntOp.cmpi .slt (BitVec.ofNat 32 t.val) n) (s t) fill

/-- The largest score, the new token's included. -/
def peak (s : Fin 1024 → EReal) (sn : EReal) : EReal := max (Finset.univ.fold max fill s) sn
/-- A cached position's weight before it is normalized. -/
def weight (s : Fin 1024 → EReal) (sn : EReal) (t : Fin 1024) : EReal := Ideal.exp (s t - peak s sn)
/-- The new token's weight before it is normalized. -/
def newWeight (s : Fin 1024 → EReal) (sn : EReal) : EReal := Ideal.exp (sn - peak s sn)
/-- The reciprocal of the weights' sum. -/
def norm (s : Fin 1024 → EReal) (sn : EReal) : EReal := Ideal.div 1 (∑ t, weight s sn t + newWeight s sn)

variable (B : Row)

/-- One term of the cached values' contribution. -/
def term (s : Fin 1024 → EReal) (sn : EReal) (h : Fin 24) (d : Fin 128) (r : Fin 3) (t : Fin 1024) : EReal :=
  weight s sn t * norm s sn * (B.avs t * B.bvs t) * B.av r h t * B.bv r t d
/-- The new token's contribution through one value factor. -/
def fresh (s : Fin 1024 → EReal) (sn : EReal) (h : Fin 24) (d : Fin 128) (r : Fin 3) : EReal :=
  newWeight s sn * norm s sn * B.avn r h * B.bvn r d

/-- The kernel's accumulation: factor by factor, the cached values and then the new token's. -/
def kSum (s : Fin 1024 → EReal) (sn : EReal) (h : Fin 24) (d : Fin 128) : EReal :=
  ∑ t, term B s sn h d 0 t + fresh B s sn h d 0 + ∑ t, term B s sn h d 1 t + fresh B s sn h d 1
    + ∑ t, term B s sn h d 2 t + fresh B s sn h d 2
/-- The reference's: all cached values in one contraction, then the new token's. -/
def rSum (s : Fin 1024 → EReal) (sn : EReal) (h : Fin 24) (d : Fin 128) : EReal :=
  ∑ t, ∑ r, term B s sn h d r t + ∑ r, fresh B s sn h d r

/-- The two accumulations agree: the terms are the same. -/
theorem kSum_eq_rSum (s : Fin 1024 → EReal) (sn : EReal) (h : Fin 24) (d : Fin 128) :
    kSum B s sn h d = rSum B s sn h d := by
  unfold kSum rSum
  rw [Finset.sum_comm, Fin.sum_univ_three, Fin.sum_univ_three]
  ac_rfl

/-! ## The scores -/

/-- The kernel's query. -/
def query (h : Fin 24) (d : Fin 128) : EReal := ∑ r, B.xa r h * B.xb r d

/-- The kernel's scores. -/
def kScore (h : Fin 24) (t : Fin 1024) : EReal :=
  ((∑ d, query B h d * B.bk 0 t d) * B.ak 0 h t + (∑ d, query B h d * B.bk 1 t d) * B.ak 1 h t)
    * (B.aks t * B.bks t * keyMult)
/-- The reference's scores. -/
def rScore (h : Fin 24) (t : Fin 1024) : EReal :=
  (∑ k, (∑ r, B.xa r h * ∑ d, B.xb r d * B.bk k t d) * B.ak k h t) * (B.aks t * B.bks t) * keyMult
/-- The kernel's score of the new token. -/
def kNew (h : Fin 24) : EReal :=
  (B.akn 0 h * ∑ d, query B h d * B.bkn 0 d + B.akn 1 h * ∑ d, query B h d * B.bkn 1 d) * keyMult
/-- The reference's. -/
def rNew (h : Fin 24) : EReal :=
  (∑ k, B.akn k h * ∑ r, (∑ d, B.xb r d * B.bkn k d) * B.xa r h) * keyMult

/-- What the kernel computes at one head and lane. -/
def kOut (h : Fin 24) (d : Fin 128) : EReal :=
  Ideal.div (kSum B (masked B.len (kScore B h)) (kNew B h) h d) three
/-- What the reference computes there. -/
def rOut (h : Fin 24) (d : Fin 128) : EReal :=
  Ideal.div (rSum B (masked B.len (rScore B h)) (rNew B h) h d) three

/-! ## Real operands -/

/-- An extended real that is a real number. -/
def IsReal (x : EReal) : Prop := ∃ r : ℝ, x = (r : EReal)

/-- A sum of real numbers, read in the extended reals. -/
theorem coe_sum {ι : Type} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

/-- The query is real when its factors are. -/
theorem query_real (hxa : ∀ r h, IsReal (B.xa r h)) (hxb : ∀ r d, IsReal (B.xb r d)) (h : Fin 24) (d : Fin 128) :
    IsReal (query B h d) := by
  choose a ha using hxa
  choose b hb using hxb
  refine ⟨∑ r, a r h * b r d, ?_⟩
  simp only [query, ha, hb, coe_sum, EReal.coe_mul]

/-- Contracting the query with a real vector `v`: the sum over the query's factors may be taken last. -/
theorem reorder (hxa : ∀ r h, IsReal (B.xa r h)) (hxb : ∀ r d, IsReal (B.xb r d)) (v : Fin 128 → EReal)
    (hv : ∀ d, IsReal (v d)) (h : Fin 24) :
    ∑ d, query B h d * v d = ∑ r, B.xa r h * ∑ d, B.xb r d * v d := by
  choose a ha using hxa
  choose b hb using hxb
  choose w hw using hv
  simp only [query, ha, hb, hw, ← EReal.coe_mul, ← coe_sum]
  congr 1
  simp only [Finset.sum_mul, Finset.mul_sum]
  rw [Finset.sum_comm]
  exact Finset.sum_congr rfl fun _ _ => Finset.sum_congr rfl fun _ _ => mul_assoc _ _ _

/-- The two scores of a cached position agree when the operands of the key products are real numbers. -/
theorem kScore_eq_rScore (hxa : ∀ r h, IsReal (B.xa r h)) (hxb : ∀ r d, IsReal (B.xb r d))
    (hbk : ∀ k t d, IsReal (B.bk k t d)) (h : Fin 24) (t : Fin 1024) : kScore B h t = rScore B h t := by
  unfold kScore rScore
  rw [Fin.sum_univ_two, reorder B hxa hxb (B.bk 0 t) (hbk 0 t), reorder B hxa hxb (B.bk 1 t) (hbk 1 t), ← mul_assoc]

/-- The two scores of the new position agree when the operands of the key products are real numbers. -/
theorem kNew_eq_rNew (hxa : ∀ r h, IsReal (B.xa r h)) (hxb : ∀ r d, IsReal (B.xb r d))
    (hbkn : ∀ k d, IsReal (B.bkn k d)) (h : Fin 24) : kNew B h = rNew B h := by
  unfold kNew rNew
  rw [Fin.sum_univ_two, reorder B hxa hxb (B.bkn 0) (hbkn 0), reorder B hxa hxb (B.bkn 1) (hbkn 1)]
  simp only [mul_comm (B.xa _ h)]

/-- The kernel's row is the reference's when the operands of the key products are real numbers. -/
theorem kOut_eq_rOut (hxa : ∀ r h, IsReal (B.xa r h)) (hxb : ∀ r d, IsReal (B.xb r d))
    (hbk : ∀ k t d, IsReal (B.bk k t d)) (hbkn : ∀ k d, IsReal (B.bkn k d)) (h : Fin 24) (d : Fin 128) :
    kOut B h d = rOut B h d := by
  have hs : kScore B h = rScore B h := funext (kScore_eq_rScore B hxa hxb hbk h)
  unfold kOut rOut
  rw [hs, kNew_eq_rNew B hxa hxb hbkn, kSum_eq_rSum]

end Cert.Attn

end
-- ==== Proof.KernelValue.lean ====
/-
  THE KERNEL'S BODY AT AN INDEX, over the extended reals: each payload read at an index, and the block the body stores
  (`stored_apply`): at a head and a lane, `Cert.Attn.kOut` of the row the loaded blocks hold.
-/
module

public import proofs.«01_k».proof.Proof.Gen.KernelIdeal.Skeleton
public import proofs.«01_k».proof.Proof.Spec

@[expose] public section

set_option maxRecDepth 16384

noncomputable section

namespace Cert.KernelIdeal.Value

open Cert.KernelIdeal Cert.KernelIdeal.Gen Cert.Attn Idealize.ShloMosaic

/-- The query at a head and a lane: the sum over the five query factors. -/
theorem pay2_apply (v2 : Vec Ideal S1x5x24 .bf16) (v5 : Vec Ideal S1x5x128 .bf16) (h : Fin 24) (d : Fin 128) :
    k0_pay2 (F := Ideal) v2 v5 (ix2 h d) = ∑ r : Fin 5, v2 (ix3 0 r h) * v5 (ix3 0 r d) := by
  pointwise [k0_pay2]
  rw [Fin.sum_univ_five]

/-- The stacked operand of the score products: the query, then its two remainders. -/
theorem pay3_apply (v2 : Vec Ideal S1x5x24 .bf16) (v5 : Vec Ideal S1x5x128 .bf16) (j : Fin 72) (d : Fin 128) :
    k0_pay3 (F := Ideal) v2 v5 (ix2 j d) =
      if h : j.val < 24 then k0_pay2 (F := Ideal) v2 v5 (ix2 ⟨j.val, h⟩ d)
      else if h' : j.val - 24 < 24 then
        k0_pay2 (F := Ideal) v2 v5 (ix2 ⟨j.val - 24, h'⟩ d) - k0_pay2 (F := Ideal) v2 v5 (ix2 ⟨j.val - 24, h'⟩ d)
      else
        k0_pay2 (F := Ideal) v2 v5 (ix2 ⟨j.val - 24 - 24, by omega⟩ d) - k0_pay2 (F := Ideal) v2 v5 (ix2 ⟨j.val - 24 - 24, by omega⟩ d)
          - (k0_pay2 (F := Ideal) v2 v5 (ix2 ⟨j.val - 24 - 24, by omega⟩ d) - k0_pay2 (F := Ideal) v2 v5 (ix2 ⟨j.val - 24 - 24, by omega⟩ d)) := by
  pointwise [k0_pay3]

/-- A real number less itself is zero. -/
theorem sub_self_of_real {x : EReal} (hx : IsReal x) : x - x = 0 := by
  obtain ⟨r, rfl⟩ := hx
  rw [← EReal.coe_sub, sub_self, EReal.coe_zero]

/-- The first block of the stacked operand is the query. -/
theorem pay3_query (v2 : Vec Ideal S1x5x24 .bf16) (v5 : Vec Ideal S1x5x128 .bf16) (h : Fin 24) (hj : h.val < 72) (d : Fin 128) :
    k0_pay3 (F := Ideal) v2 v5 (ix2 ⟨h.val, hj⟩ d) = k0_pay2 (F := Ideal) v2 v5 (ix2 h d) := by
  rw [pay3_apply, dif_pos h.isLt]

/-- The second block is zero where the query is real. -/
theorem pay3_rest (v2 : Vec Ideal S1x5x24 .bf16) (v5 : Vec Ideal S1x5x128 .bf16)
    (hq : ∀ h d, IsReal (k0_pay2 (F := Ideal) v2 v5 (ix2 h d))) (h : Fin 24) (hj : 24 + h.val < 72) (d : Fin 128) :
    k0_pay3 (F := Ideal) v2 v5 (ix2 ⟨24 + h.val, hj⟩ d) = 0 := by
  rw [pay3_apply, dif_neg (by simp), dif_pos (by simp)]
  exact sub_self_of_real (hq _ _)

/-- So is the third. -/
theorem pay3_rest2 (v2 : Vec Ideal S1x5x24 .bf16) (v5 : Vec Ideal S1x5x128 .bf16)
    (hq : ∀ h d, IsReal (k0_pay2 (F := Ideal) v2 v5 (ix2 h d))) (h : Fin 24) (hj : 48 + h.val < 72) (d : Fin 128) :
    k0_pay3 (F := Ideal) v2 v5 (ix2 ⟨48 + h.val, hj⟩ d) = 0 := by
  rw [pay3_apply, dif_neg (by simp; omega), dif_neg (by simp; omega), sub_self_of_real (hq _ _)]
  exact sub_zero _

/-- The scaled scores, where the query is real: the two remainders contribute nothing. -/
theorem pay5_apply (v2 : Vec Ideal S1x5x24 .bf16) (v5 : Vec Ideal S1x5x128 .bf16)
    (hq : ∀ h d, IsReal (k0_pay2 (F := Ideal) v2 v5 (ix2 h d))) (v49 : Vec Ideal S1x1x1024x128 .fp8e4m3)
    (v57 : Vec Ideal S1x1x24x1024 .fp8e4m3) (v62 : Vec Ideal S1x1x1024x128 .fp8e4m3) (v70 : Vec Ideal S1x1x24x1024 .fp8e4m3)
    (v75 v77 : Vec Ideal S1x1x1024 .f32) (h : Fin 24) (t : Fin 1024) :
    k0_pay5 (F := Ideal) (k0_pay3 (F := Ideal) v2 v5) (k0_pay4 (F := Ideal)) v49 v57 v62 v70 v75 v77 (ix2 h t) =
      ((∑ d, k0_pay2 (F := Ideal) v2 v5 (ix2 h d) * v49 (ix4 0 0 t d)) * v57 (ix4 0 0 h t)
        + (∑ d, k0_pay2 (F := Ideal) v2 v5 (ix2 h d) * v62 (ix4 0 0 t d)) * v70 (ix4 0 0 h t))
        * (v75 (ix3 0 0 t) * v77 (ix3 0 0 t) * keyMult) := by
  pointwise [k0_pay5, k0_pay4]
  simp only [pay3_query, pay3_rest v2 v5 hq, pay3_rest2 v2 v5 hq, zero_mul, Finset.sum_const_zero, add_zero]

/-- The masked scores. -/
theorem pay7_apply (v83 : FVec Ideal S24x1024 .f32) (n : BitVec 32) (h : Fin 24) (t : Fin 1024) :
    k0_pay7 (F := Ideal) v83 (iota .tc S1x1024 32 [1] iota_S1x1024_d1_w32) (k0_pay6 (F := Ideal) n) (ix2 h t) =
      masked n (fun t => v83 (ix2 h t)) t := by
  unfold masked
  pointwise [k0_pay7, k0_pay6]

/-- The new token's score. -/
theorem pay8_apply (q : FVec Ideal S24x128 .f32) (v91 : Vec Ideal S1x2x24 .bf16) (v97 v107 : Vec Ideal S1x1x128 .bf16) (h : Fin 24) :
    k0_pay8 (F := Ideal) q v91 v97 v107 (ix2 h 0) =
      (v91 (ix3 0 0 h) * ∑ d, q (ix2 h d) * v97 (ix3 0 0 d) + v91 (ix3 0 1 h) * ∑ d, q (ix2 h d) * v107 (ix3 0 0 d)) * keyMult := by
  pointwise [k0_pay8]

section softmax

variable (v39 : FVec Ideal S24x128 .f32) (v83 : FVec Ideal S24x1024 .f32) (v84 v85 : IVec S1x1024 32)
  (v91 : Vec Ideal S1x2x24 .bf16) (v97 v107 : Vec Ideal S1x1x128 .bf16) (s : Fin 24 → Fin 1024 → EReal) (sn : Fin 24 → EReal)

/-- The largest score of a head, from the scores. -/
theorem pay9_apply (hs : ∀ h t, k0_pay7 (F := Ideal) v83 v84 v85 (ix2 h t) = s h t)
    (hsn : ∀ h, k0_pay8 (F := Ideal) v39 v91 v97 v107 (ix2 h 0) = sn h) (h : Fin 24) :
    k0_pay9 (F := Ideal) v39 v83 v84 v85 v91 v97 v107 (ix2 h 0) = peak (s h) (sn h) := by
  pointwise [k0_pay9]
  simp only [hs, hsn, peak]

/-- The cached positions' weights. -/
theorem pay10_apply (hs : ∀ h t, k0_pay7 (F := Ideal) v83 v84 v85 (ix2 h t) = s h t)
    (hsn : ∀ h, k0_pay8 (F := Ideal) v39 v91 v97 v107 (ix2 h 0) = sn h) (h : Fin 24) (t : Fin 1024) :
    k0_pay10 (F := Ideal) v39 v83 v84 v85 v91 v97 v107 (ix2 h t) = weight (s h) (sn h) t := by
  pointwise [k0_pay10]
  simp only [pay9_apply v39 v83 v84 v85 v91 v97 v107 s sn hs hsn, hs, weight]

/-- The new token's weight. -/
theorem pay11_apply (hs : ∀ h t, k0_pay7 (F := Ideal) v83 v84 v85 (ix2 h t) = s h t)
    (hsn : ∀ h, k0_pay8 (F := Ideal) v39 v91 v97 v107 (ix2 h 0) = sn h) (h : Fin 24) :
    k0_pay11 (F := Ideal) v39 v83 v84 v85 v91 v97 v107 (ix2 h 0) = newWeight (s h) (sn h) := by
  pointwise [k0_pay11]
  simp only [pay9_apply v39 v83 v84 v85 v91 v97 v107 s sn hs hsn, hsn, newWeight]

/-- The weights' sum. -/
theorem pay12_apply (hs : ∀ h t, k0_pay7 (F := Ideal) v83 v84 v85 (ix2 h t) = s h t)
    (hsn : ∀ h, k0_pay8 (F := Ideal) v39 v91 v97 v107 (ix2 h 0) = sn h) (h : Fin 24) :
    k0_pay12 (F := Ideal) v39 v83 v84 v85 v91 v97 v107 (ix2 h 0) = ∑ t, weight (s h) (sn h) t + newWeight (s h) (sn h) := by
  pointwise [k0_pay12]
  simp only [pay10_apply v39 v83 v84 v85 v91 v97 v107 s sn hs hsn, pay11_apply v39 v83 v84 v85 v91 v97 v107 s sn hs hsn]

end softmax

/-- The reciprocal of the weights' sum. -/
theorem pay13_apply (v128 : FVec Ideal S24x1 .f32) (h : Fin 24) :
    k0_pay13 (F := Ideal) v128 (Scalar.ofBits .f32 0x3F800000#32) (ix2 h 0) = Ideal.div 1 (v128 (ix2 h 0)) := by
  pointwise [k0_pay13]

/-- The normalized weights times the value scales. -/
theorem pay14_apply (v123 : FVec Ideal S24x1024 .f32) (v128 : FVec Ideal S24x1 .f32) (v133 v135 : Vec Ideal S1x1x1024 .f32)
    (h : Fin 24) (t : Fin 1024) :
    k0_pay14 (F := Ideal) v123 v128 (Scalar.ofBits .f32 0x3F800000#32) v133 v135 (ix2 h t) =
      v123 (ix2 h t) * Ideal.div 1 (v128 (ix2 h 0)) * (v133 (ix3 0 0 t) * v135 (ix3 0 0 t)) := by
  pointwise [k0_pay14, k0_pay13]

/-- The new token's value factors, heads first. -/
theorem pay15_apply (v140 : Vec Ideal S1x3x24 .bf16) (h : Fin 24) (r : Fin 3) :
    k0_pay15 (F := Ideal) v140 (ix2 h r) = v140 (ix3 0 r h) := by
  pointwise [k0_pay15]

/-- The accumulator after the first value factor. -/
theorem pay16_apply (v123 : FVec Ideal S24x1024 .f32) (v125 v128 : FVec Ideal S24x1 .f32) (c : Ideal .f32)
    (v133 v135 : Vec Ideal S1x1x1024 .f32) (v140 : Vec Ideal S1x3x24 .bf16) (v145 : Vec Ideal S1x1x24x1024 .fp8e4m3)
    (v150 : Vec Ideal S1x1x1024x128 .fp8e4m3) (v157 : Vec Ideal S1x1x128 .bf16) (h : Fin 24) (d : Fin 128) :
    k0_pay16 (F := Ideal) v123 v125 v128 c v133 v135 v140 v145 v150 v157 (ix2 h d) =
      ∑ t, k0_pay14 (F := Ideal) v123 v128 c v133 v135 (ix2 h t) * v145 (ix4 0 0 h t) * v150 (ix4 0 0 t d)
        + v125 (ix2 h 0) * k0_pay13 (F := Ideal) v128 c (ix2 h 0) * v140 (ix3 0 0 h) * v157 (ix3 0 0 d) := by
  pointwise [k0_pay16, k0_pay15]

/-- The accumulator after all three. -/
theorem pay17_apply (v125 v130 : FVec Ideal S24x1 .f32) (v139 : FVec Ideal S24x1024 .f32) (v143 : FVec Ideal S24x3 .f32)
    (v163 : FVec Ideal S24x128 .f32) (v164 : Vec Ideal S1x1x24x1024 .fp8e4m3) (v169 : Vec Ideal S1x1x1024x128 .fp8e4m3)
    (v176 : Vec Ideal S1x1x128 .bf16) (v183 : Vec Ideal S1x1x24x1024 .fp8e4m3) (v188 : Vec Ideal S1x1x1024x128 .fp8e4m3)
    (v195 : Vec Ideal S1x1x128 .bf16) (h : Fin 24) (d : Fin 128) :
    k0_pay17 (F := Ideal) v125 v130 v139 v143 v163 v164 v169 v176 v183 v188 v195 (ix2 h d) =
      v163 (ix2 h d) + ∑ t, v139 (ix2 h t) * v164 (ix4 0 0 h t) * v169 (ix4 0 0 t d)
        + v125 (ix2 h 0) * v130 (ix2 h 0) * v143 (ix2 h 1) * v176 (ix3 0 0 d)
        + ∑ t, v139 (ix2 h t) * v183 (ix4 0 0 h t) * v188 (ix4 0 0 t d)
        + v125 (ix2 h 0) * v130 (ix2 h 0) * v143 (ix2 h 2) * v195 (ix3 0 0 d) := by
  pointwise [k0_pay17]

/-- The stored block: the accumulator over the number of value factors. -/
theorem pay1_apply (v201 : FVec Ideal S24x128 .f32) (h : Fin 24) (d : Fin 128) :
    k0_pay1 (F := Ideal) v201 (Scalar.ofBits .f32 0x40400000#32) (ix3 0 h d) = Ideal.div (v201 (ix2 h d)) three := by
  pointwise [k0_pay1]

/-- What the body stores, of what it loads: the payloads composed in the body's order. -/
def stored (v1 : BitVec 32) (v2 : Vec Ideal S1x5x24 .bf16) (v5 : Vec Ideal S1x5x128 .bf16)
    (v49 : Vec Ideal S1x1x1024x128 .fp8e4m3) (v57 : Vec Ideal S1x1x24x1024 .fp8e4m3) (v62 : Vec Ideal S1x1x1024x128 .fp8e4m3)
    (v70 : Vec Ideal S1x1x24x1024 .fp8e4m3) (v75 v77 : Vec Ideal S1x1x1024 .f32) (v91 : Vec Ideal S1x2x24 .bf16)
    (v97 v107 : Vec Ideal S1x1x128 .bf16) (v133 v135 : Vec Ideal S1x1x1024 .f32) (v140 : Vec Ideal S1x3x24 .bf16)
    (v145 : Vec Ideal S1x1x24x1024 .fp8e4m3) (v150 : Vec Ideal S1x1x1024x128 .fp8e4m3) (v157 : Vec Ideal S1x1x128 .bf16)
    (v164 : Vec Ideal S1x1x24x1024 .fp8e4m3) (v169 : Vec Ideal S1x1x1024x128 .fp8e4m3) (v176 : Vec Ideal S1x1x128 .bf16)
    (v183 : Vec Ideal S1x1x24x1024 .fp8e4m3) (v188 : Vec Ideal S1x1x1024x128 .fp8e4m3) (v195 : Vec Ideal S1x1x128 .bf16) :
    FVec Ideal S1x24x128 .bf16 :=
  have v39 := k0_pay2 (F := Ideal) v2 v5
  have v83 := k0_pay5 (F := Ideal) (k0_pay3 (F := Ideal) v2 v5) (k0_pay4 (F := Ideal)) v49 v57 v62 v70 v75 v77
  have v84 : IVec S1x1024 32 := iota .tc S1x1024 32 [1] iota_S1x1024_d1_w32
  have v85 := k0_pay6 (F := Ideal) v1
  have v123 := k0_pay10 (F := Ideal) v39 v83 v84 v85 v91 v97 v107
  have v125 := k0_pay11 (F := Ideal) v39 v83 v84 v85 v91 v97 v107
  have v128 := k0_pay12 (F := Ideal) v39 v83 v84 v85 v91 v97 v107
  have one : Ideal .f32 := Scalar.ofBits .f32 0x3F800000#32
  k0_pay1 (F := Ideal)
    (k0_pay17 (F := Ideal) v125 (k0_pay13 (F := Ideal) v128 one) (k0_pay14 (F := Ideal) v123 v128 one v133 v135)
      (k0_pay15 (F := Ideal) v140) (k0_pay16 (F := Ideal) v123 v125 v128 one v133 v135 v140 v145 v150 v157)
      v164 v169 v176 v183 v188 v195)
    (Scalar.ofBits .f32 0x40400000#32)

/-- The stored block at a head and a lane is the kernel's row value, for loads that hold the row `B`, where the query
    factors are real. -/
theorem stored_apply (B : Row) (hxa : ∀ r h, IsReal (B.xa r h)) (hxb : ∀ r d, IsReal (B.xb r d))
    {v2 : Vec Ideal S1x5x24 .bf16} {v5 : Vec Ideal S1x5x128 .bf16}
    {v49 : Vec Ideal S1x1x1024x128 .fp8e4m3} {v57 : Vec Ideal S1x1x24x1024 .fp8e4m3} {v62 : Vec Ideal S1x1x1024x128 .fp8e4m3}
    {v70 : Vec Ideal S1x1x24x1024 .fp8e4m3} {v75 v77 : Vec Ideal S1x1x1024 .f32} {v91 : Vec Ideal S1x2x24 .bf16}
    {v97 v107 : Vec Ideal S1x1x128 .bf16} {v133 v135 : Vec Ideal S1x1x1024 .f32} {v140 : Vec Ideal S1x3x24 .bf16}
    {v145 : Vec Ideal S1x1x24x1024 .fp8e4m3} {v150 : Vec Ideal S1x1x1024x128 .fp8e4m3} {v157 : Vec Ideal S1x1x128 .bf16}
    {v164 : Vec Ideal S1x1x24x1024 .fp8e4m3} {v169 : Vec Ideal S1x1x1024x128 .fp8e4m3} {v176 : Vec Ideal S1x1x128 .bf16}
    {v183 : Vec Ideal S1x1x24x1024 .fp8e4m3} {v188 : Vec Ideal S1x1x1024x128 .fp8e4m3} {v195 : Vec Ideal S1x1x128 .bf16}
    (h2 : ∀ r h, v2 (ix3 0 r h) = B.xa r h) (h5 : ∀ r d, v5 (ix3 0 r d) = B.xb r d)
    (h49 : ∀ t d, v49 (ix4 0 0 t d) = B.bk 0 t d) (h57 : ∀ h t, v57 (ix4 0 0 h t) = B.ak 0 h t)
    (h62 : ∀ t d, v62 (ix4 0 0 t d) = B.bk 1 t d) (h70 : ∀ h t, v70 (ix4 0 0 h t) = B.ak 1 h t)
    (h75 : ∀ t, v75 (ix3 0 0 t) = B.aks t) (h77 : ∀ t, v77 (ix3 0 0 t) = B.bks t)
    (h91 : ∀ k h, v91 (ix3 0 k h) = B.akn k h)
    (h97 : ∀ d, v97 (ix3 0 0 d) = B.bkn 0 d) (h107 : ∀ d, v107 (ix3 0 0 d) = B.bkn 1 d)
    (h133 : ∀ t, v133 (ix3 0 0 t) = B.avs t) (h135 : ∀ t, v135 (ix3 0 0 t) = B.bvs t)
    (h140 : ∀ r h, v140 (ix3 0 r h) = B.avn r h)
    (h145 : ∀ h t, v145 (ix4 0 0 h t) = B.av 0 h t) (h150 : ∀ t d, v150 (ix4 0 0 t d) = B.bv 0 t d)
    (h157 : ∀ d, v157 (ix3 0 0 d) = B.bvn 0 d)
    (h164 : ∀ h t, v164 (ix4 0 0 h t) = B.av 1 h t) (h169 : ∀ t d, v169 (ix4 0 0 t d) = B.bv 1 t d)
    (h176 : ∀ d, v176 (ix3 0 0 d) = B.bvn 1 d)
    (h183 : ∀ h t, v183 (ix4 0 0 h t) = B.av 2 h t) (h188 : ∀ t d, v188 (ix4 0 0 t d) = B.bv 2 t d)
    (h195 : ∀ d, v195 (ix3 0 0 d) = B.bvn 2 d) (h : Fin 24) (d : Fin 128) :
    stored B.len v2 v5 v49 v57 v62 v70 v75 v77 v91 v97 v107 v133 v135 v140 v145 v150 v157 v164 v169 v176 v183 v188 v195
      (ix3 0 h d) = kOut B h d := by
  have hq : ∀ h d, k0_pay2 (F := Ideal) v2 v5 (ix2 h d) = query B h d := fun h d => by
    rw [pay2_apply]; simp only [h2, h5, query]
  have hqr : ∀ h d, IsReal (k0_pay2 (F := Ideal) v2 v5 (ix2 h d)) := fun h d => by
    rw [hq]; exact query_real B hxa hxb h d
  have hs : ∀ h t, k0_pay7 (F := Ideal)
      (k0_pay5 (F := Ideal) (k0_pay3 (F := Ideal) v2 v5) (k0_pay4 (F := Ideal)) v49 v57 v62 v70 v75 v77)
      (iota .tc S1x1024 32 [1] iota_S1x1024_d1_w32) (k0_pay6 (F := Ideal) B.len) (ix2 h t)
      = masked B.len (kScore B h) t := fun h t => by
    rw [pay7_apply]
    congr 1
    funext t
    rw [pay5_apply v2 v5 hqr]
    simp only [hq, h49, h57, h62, h70, h75, h77, kScore]
  have hsn : ∀ h, k0_pay8 (F := Ideal) (k0_pay2 (F := Ideal) v2 v5) v91 v97 v107 (ix2 h 0) = kNew B h := fun h => by
    rw [pay8_apply]
    simp only [hq, h91, h97, h107, kNew]
  unfold stored
  simp only [pay1_apply, pay17_apply, pay16_apply, pay15_apply, pay14_apply, pay13_apply,
    pay12_apply _ _ _ _ _ _ _ _ _ hs hsn, pay11_apply _ _ _ _ _ _ _ _ _ hs hsn, pay10_apply _ _ _ _ _ _ _ _ _ hs hsn,
    h133, h135, h140, h145, h150, h157, h164, h169, h176, h183, h188, h195]
  rfl

end Cert.KernelIdeal.Value

end
-- ==== Proof.Block.lean ====
/-
  ONE GRID POINT OF THE KERNEL, over the extended reals: the block it leaves, from the blocks staged for it, is the
  attention value `Cert.Attn.kOut` of the batch row those blocks hold (`out_apply`).
-/
module

public import proofs.«01_k».proof.Proof.Gen.KernelIdeal.Frame
public import proofs.«01_k».proof.Proof.KernelValue
public import Idealize.ShloMosaic.Lib.Pipeline.ValueKit

@[expose] public section

set_option maxRecDepth 16384

noncomputable section

namespace Cert.KernelIdeal.Value

open Cert.KernelIdeal Cert.KernelIdeal.Gen Cert.Attn Idealize.ShloMosaic Idealize.ShloMosaic.TcCoe Idealize.SL.Sem Idealize.ShloMosaic.Tactic

/-- The three zero offsets are the zero function. -/
theorem hz3 : (![0, 0, 0] : Fin 3 → Nat) = fun _ => 0 := funext fun a => by fin_cases a <;> rfl

/-- A load of one slice of the second axis of a four-axis block. -/
theorem ld4 {e : EltTy} {n1 n2 n3 : ℕ} (X : (⟨4, ![1, n1, n2, n3]⟩ : Shape).Idx → Elt Ideal e) (k : Fin n1)
    (inb : ∀ a, (![0, k.val, 0, 0] : Fin 4 → Nat) a + (![1, 1, n2, n3] : Fin 4 → Nat) a ≤ (![1, n1, n2, n3] : Fin 4 → Nat) a)
    (y : Fin n2) (z : Fin n3) :
    View.ld X (Rect.unit (s := ⟨4, ![1, n1, n2, n3]⟩) ![0, k.val, 0, 0] ![1, 1, n2, n3] inb) (ix4 0 0 y z) = X (ix4 0 k y z) :=
  View.ld_unit_apply_of X _ _ inb _ (ix4 0 k y z) (by intro a; fin_cases a <;> simp)

/-- A load of one slice of the second axis of a three-axis block. -/
theorem ld3 {e : EltTy} {n1 n2 : ℕ} (X : (⟨3, ![1, n1, n2]⟩ : Shape).Idx → Elt Ideal e) (k : Fin n1)
    (inb : ∀ a, (![0, k.val, 0] : Fin 3 → Nat) a + (![1, 1, n2] : Fin 3 → Nat) a ≤ (![1, n1, n2] : Fin 3 → Nat) a)
    (y : Fin n2) :
    View.ld X (Rect.unit (s := ⟨3, ![1, n1, n2]⟩) ![0, k.val, 0] ![1, 1, n2] inb) (ix3 0 0 y) = X (ix3 0 k y) :=
  View.ld_unit_apply_of X _ _ inb _ (ix3 0 k y) (by intro a; fin_cases a <;> simp)

/-- The whole of a three-axis block, loaded. -/
theorem ld3_whole {e : EltTy} {n1 n2 : ℕ} (X : (⟨3, ![1, n1, n2]⟩ : Shape).Idx → Elt Ideal e)
    (inb : ∀ a, (![0, 0, 0] : Fin 3 → Nat) a + (![1, n1, n2] : Fin 3 → Nat) a ≤ (![1, n1, n2] : Fin 3 → Nat) a)
    (y : Fin n1) (z : Fin n2) :
    View.ld X (Rect.unit (s := ⟨3, ![1, n1, n2]⟩) ![0, 0, 0] ![1, n1, n2] inb) (ix3 0 y z) = X (ix3 0 y z) :=
  View.ld_unit_apply_of X _ _ inb _ (ix3 0 y z) (by intro a; fin_cases a <;> simp)

/-- The load of the batch's own length. -/
theorem ld_len (X : Vec Ideal S96 .i32) (i : grid0.Coords) (b : Fin 96) (hb : (i 0 : ℕ) = b) :
    View.ld X (Rect.unit (k0_off1 i) S1.size (k0_off1_inb i)) (Shape.Idx.first (show 0 < S1.numel by decide)) = X (ix1 b) := by
  show X _ = X _
  refine congrArg X (funext fun a => Fin.ext ?_)
  have hlt : (i 0 : ℕ) < 96 := (i 0).isLt
  fin_cases a
  rw [Rect.idx_unit_val]
  show (BitVec.ofNat 32 (i 0 : ℕ)).toNat + 0 = (b : ℕ)
  rw [BitVec.toNat_ofNat, hb, Nat.mod_eq_of_lt (by omega)]
  rfl

/-- What the body leaves in the result's staging buffer. -/
theorem out_eq (c : Dev nD) (i : grid0.Coords) (arg1 : Memref sig .tc .smem S96 .i32) (harg1 : arg1.IsWhole) (arg2 : Memref sig .tc
    .vmem S1x5x24 .bf16) (harg2 : arg2.IsWhole) (arg3 : Memref sig .tc .vmem S1x5x128 .bf16) (harg3 : arg3.IsWhole) (arg4 :
    Memref sig .tc .vmem S1x2x24x1024 .fp8e4m3) (harg4 : arg4.IsWhole) (arg5 : Memref sig .tc .vmem S1x1x1024 .f32) (harg5 :
    arg5.IsWhole) (arg6 : Memref sig .tc .vmem S1x2x1024x128 .fp8e4m3) (harg6 : arg6.IsWhole) (arg7 : Memref sig .tc .vmem
    S1x1x1024 .f32) (harg7 : arg7.IsWhole) (arg8 : Memref sig .tc .vmem S1x3x24x1024 .fp8e4m3) (harg8 : arg8.IsWhole) (arg9
    : Memref sig .tc .vmem S1x1x1024 .f32) (harg9 : arg9.IsWhole) (arg10 : Memref sig .tc .vmem S1x3x1024x128 .fp8e4m3)
    (harg10 : arg10.IsWhole) (arg11 : Memref sig .tc .vmem S1x1x1024 .f32) (harg11 : arg11.IsWhole) (arg12 : Memref sig .tc
    .vmem S1x2x24 .bf16) (harg12 : arg12.IsWhole) (arg13 : Memref sig .tc .vmem S1x2x128 .bf16) (harg13 : arg13.IsWhole)
    (arg14 : Memref sig .tc .vmem S1x3x24 .bf16) (harg14 : arg14.IsWhole) (arg15 : Memref sig .tc .vmem S1x3x128 .bf16)
    (harg15 : arg15.IsWhole) (arg16 : Memref sig .tc .vmem S1x24x128 .bf16) (harg16 : arg16.IsWhole)     (x0 : Vec Ideal S96
    .i32) (x1 : Vec Ideal S1x5x24 .bf16) (x2 : Vec Ideal S1x5x128 .bf16) (x3 : Vec Ideal S1x2x24x1024 .fp8e4m3) (x4 : Vec
    Ideal S1x1x1024 .f32) (x5 : Vec Ideal S1x2x1024x128 .fp8e4m3) (x6 : Vec Ideal S1x1x1024 .f32) (x7 : Vec Ideal
    S1x3x24x1024 .fp8e4m3) (x8 : Vec Ideal S1x1x1024 .f32) (x9 : Vec Ideal S1x3x1024x128 .fp8e4m3) (x10 : Vec Ideal
    S1x1x1024 .f32) (x11 : Vec Ideal S1x2x24 .bf16) (x12 : Vec Ideal S1x2x128 .bf16) (x13 : Vec Ideal S1x3x24 .bf16) (x14 :
    Vec Ideal S1x3x128 .bf16) :
    out0_A_15 (F := Ideal) c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 x0 x1 x2 x3 x4 x5 x6 x7
        x8 x9 x10 x11 x12 x13 x14
      = stored (View.ld x0 (Rect.unit (k0_off1 i) S1.size (k0_off1_inb i)) (Shape.Idx.first (show 0 < S1.numel by decide)))
          (View.ld x1 (Rect.unit (s := S1x5x24) ![0, 0, 0] S1x5x24.size inb_S1x5x24_S1x5x24_0_0_0))
          (View.ld x2 (Rect.unit (s := S1x5x128) ![0, 0, 0] S1x5x128.size inb_S1x5x128_S1x5x128_0_0_0))
          (View.ld x5 (Rect.unit (s := S1x2x1024x128) ![0, 0, 0, 0] S1x1x1024x128.size inb_S1x2x1024x128_S1x1x1024x128_0_0_0_0))
          (View.ld x3 (Rect.unit (s := S1x2x24x1024) ![0, 0, 0, 0] S1x1x24x1024.size inb_S1x2x24x1024_S1x1x24x1024_0_0_0_0))
          (View.ld x5 (Rect.unit (s := S1x2x1024x128) ![0, 1, 0, 0] S1x1x1024x128.size inb_S1x2x1024x128_S1x1x1024x128_0_1_0_0))
          (View.ld x3 (Rect.unit (s := S1x2x24x1024) ![0, 1, 0, 0] S1x1x24x1024.size inb_S1x2x24x1024_S1x1x24x1024_0_1_0_0))
          (View.ld x4 (Rect.unit (s := S1x1x1024) ![0, 0, 0] S1x1x1024.size inb_S1x1x1024_S1x1x1024_0_0_0))
          (View.ld x6 (Rect.unit (s := S1x1x1024) ![0, 0, 0] S1x1x1024.size inb_S1x1x1024_S1x1x1024_0_0_0))
          (View.ld x11 (Rect.unit (s := S1x2x24) ![0, 0, 0] S1x2x24.size inb_S1x2x24_S1x2x24_0_0_0))
          (View.ld x12 (Rect.unit (s := S1x2x128) ![0, 0, 0] S1x1x128.size inb_S1x2x128_S1x1x128_0_0_0))
          (View.ld x12 (Rect.unit (s := S1x2x128) ![0, 1, 0] S1x1x128.size inb_S1x2x128_S1x1x128_0_1_0))
          (View.ld x8 (Rect.unit (s := S1x1x1024) ![0, 0, 0] S1x1x1024.size inb_S1x1x1024_S1x1x1024_0_0_0))
          (View.ld x10 (Rect.unit (s := S1x1x1024) ![0, 0, 0] S1x1x1024.size inb_S1x1x1024_S1x1x1024_0_0_0))
          (View.ld x13 (Rect.unit (s := S1x3x24) ![0, 0, 0] S1x3x24.size inb_S1x3x24_S1x3x24_0_0_0))
          (View.ld x7 (Rect.unit (s := S1x3x24x1024) ![0, 0, 0, 0] S1x1x24x1024.size inb_S1x3x24x1024_S1x1x24x1024_0_0_0_0))
          (View.ld x9 (Rect.unit (s := S1x3x1024x128) ![0, 0, 0, 0] S1x1x1024x128.size inb_S1x3x1024x128_S1x1x1024x128_0_0_0_0))
          (View.ld x14 (Rect.unit (s := S1x3x128) ![0, 0, 0] S1x1x128.size inb_S1x3x128_S1x1x128_0_0_0))
          (View.ld x7 (Rect.unit (s := S1x3x24x1024) ![0, 1, 0, 0] S1x1x24x1024.size inb_S1x3x24x1024_S1x1x24x1024_0_1_0_0))
          (View.ld x9 (Rect.unit (s := S1x3x1024x128) ![0, 1, 0, 0] S1x1x1024x128.size inb_S1x3x1024x128_S1x1x1024x128_0_1_0_0))
          (View.ld x14 (Rect.unit (s := S1x3x128) ![0, 1, 0] S1x1x128.size inb_S1x3x128_S1x1x128_0_1_0))
          (View.ld x7 (Rect.unit (s := S1x3x24x1024) ![0, 2, 0, 0] S1x1x24x1024.size inb_S1x3x24x1024_S1x1x24x1024_0_2_0_0))
          (View.ld x9 (Rect.unit (s := S1x3x1024x128) ![0, 2, 0, 0] S1x1x1024x128.size inb_S1x3x1024x128_S1x1x1024x128_0_2_0_0))
          (View.ld x14 (Rect.unit (s := S1x3x128) ![0, 2, 0] S1x1x128.size inb_S1x3x128_S1x1x128_0_2_0)) := by
  unfold out0_A_15
  rw [View.read_writes_eq_canon _ _ _ (cover0_A_15 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 x0 x1 x2 x3 x4 x5 x6 x7
        x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero hz3]
  unfold stored
  rfl

/-- What the body leaves in the result's staging buffer, at a head and a lane: the kernel's row value of the row `B` that its
    input blocks hold, where the query factors are real. -/
theorem out_apply (c : Dev nD) (i : grid0.Coords) (arg1 : Memref sig .tc .smem S96 .i32) (harg1 : arg1.IsWhole) (arg2 : Memref sig .tc
    .vmem S1x5x24 .bf16) (harg2 : arg2.IsWhole) (arg3 : Memref sig .tc .vmem S1x5x128 .bf16) (harg3 : arg3.IsWhole) (arg4 :
    Memref sig .tc .vmem S1x2x24x1024 .fp8e4m3) (harg4 : arg4.IsWhole) (arg5 : Memref sig .tc .vmem S1x1x1024 .f32) (harg5 :
    arg5.IsWhole) (arg6 : Memref sig .tc .vmem S1x2x1024x128 .fp8e4m3) (harg6 : arg6.IsWhole) (arg7 : Memref sig .tc .vmem
    S1x1x1024 .f32) (harg7 : arg7.IsWhole) (arg8 : Memref sig .tc .vmem S1x3x24x1024 .fp8e4m3) (harg8 : arg8.IsWhole) (arg9
    : Memref sig .tc .vmem S1x1x1024 .f32) (harg9 : arg9.IsWhole) (arg10 : Memref sig .tc .vmem S1x3x1024x128 .fp8e4m3)
    (harg10 : arg10.IsWhole) (arg11 : Memref sig .tc .vmem S1x1x1024 .f32) (harg11 : arg11.IsWhole) (arg12 : Memref sig .tc
    .vmem S1x2x24 .bf16) (harg12 : arg12.IsWhole) (arg13 : Memref sig .tc .vmem S1x2x128 .bf16) (harg13 : arg13.IsWhole)
    (arg14 : Memref sig .tc .vmem S1x3x24 .bf16) (harg14 : arg14.IsWhole) (arg15 : Memref sig .tc .vmem S1x3x128 .bf16)
    (harg15 : arg15.IsWhole) (arg16 : Memref sig .tc .vmem S1x24x128 .bf16) (harg16 : arg16.IsWhole)     (x0 : Vec Ideal S96
    .i32) (x1 : Vec Ideal S1x5x24 .bf16) (x2 : Vec Ideal S1x5x128 .bf16) (x3 : Vec Ideal S1x2x24x1024 .fp8e4m3) (x4 : Vec
    Ideal S1x1x1024 .f32) (x5 : Vec Ideal S1x2x1024x128 .fp8e4m3) (x6 : Vec Ideal S1x1x1024 .f32) (x7 : Vec Ideal
    S1x3x24x1024 .fp8e4m3) (x8 : Vec Ideal S1x1x1024 .f32) (x9 : Vec Ideal S1x3x1024x128 .fp8e4m3) (x10 : Vec Ideal
    S1x1x1024 .f32) (x11 : Vec Ideal S1x2x24 .bf16) (x12 : Vec Ideal S1x2x128 .bf16) (x13 : Vec Ideal S1x3x24 .bf16) (x14 :
    Vec Ideal S1x3x128 .bf16)
    (B : Row) (hxa : ∀ r h, IsReal (B.xa r h)) (hxb : ∀ r d, IsReal (B.xb r d))
    (b : Fin 96) (hb : (i 0 : ℕ) = b) (h0 : x0 (ix1 b) = B.len)
    (h1 : ∀ r h, x1 (ix3 0 r h) = B.xa r h) (h2 : ∀ r d, x2 (ix3 0 r d) = B.xb r d)
    (h3 : ∀ k h t, x3 (ix4 0 k h t) = B.ak k h t) (h4 : ∀ t, x4 (ix3 0 0 t) = B.aks t)
    (h5 : ∀ k t d, x5 (ix4 0 k t d) = B.bk k t d) (h6 : ∀ t, x6 (ix3 0 0 t) = B.bks t)
    (h7 : ∀ r h t, x7 (ix4 0 r h t) = B.av r h t) (h8 : ∀ t, x8 (ix3 0 0 t) = B.avs t)
    (h9 : ∀ r t d, x9 (ix4 0 r t d) = B.bv r t d) (h10 : ∀ t, x10 (ix3 0 0 t) = B.bvs t)
    (h11 : ∀ k h, x11 (ix3 0 k h) = B.akn k h) (h12 : ∀ k d, x12 (ix3 0 k d) = B.bkn k d)
    (h13 : ∀ r h, x13 (ix3 0 r h) = B.avn r h) (h14 : ∀ r d, x14 (ix3 0 r d) = B.bvn r d) (h : Fin 24) (d : Fin 128) :
    out0_A_15 (F := Ideal) c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 x0 x1 x2 x3 x4 x5 x6 x7
        x8 x9 x10 x11 x12 x13 x14 (ix3 0 h d) = kOut B h d := by
  rw [out_eq]
  rw [(ld_len x0 i b hb).trans h0]
  exact stored_apply B hxa hxb
    (fun y z => (ld3_whole x1 _ y z).trans (h1 y z))
    (fun y z => (ld3_whole x2 _ y z).trans (h2 y z))
    (fun y z => (ld4 x5 0 _ y z).trans (h5 0 y z))
    (fun y z => (ld4 x3 0 _ y z).trans (h3 0 y z))
    (fun y z => (ld4 x5 1 _ y z).trans (h5 1 y z))
    (fun y z => (ld4 x3 1 _ y z).trans (h3 1 y z))
    (fun z => (ld3_whole x4 _ 0 z).trans (h4 z))
    (fun z => (ld3_whole x6 _ 0 z).trans (h6 z))
    (fun y z => (ld3_whole x11 _ y z).trans (h11 y z))
    (fun z => (ld3 x12 0 _ z).trans (h12 0 z))
    (fun z => (ld3 x12 1 _ z).trans (h12 1 z))
    (fun z => (ld3_whole x8 _ 0 z).trans (h8 z))
    (fun z => (ld3_whole x10 _ 0 z).trans (h10 z))
    (fun y z => (ld3_whole x13 _ y z).trans (h13 y z))
    (fun y z => (ld4 x7 0 _ y z).trans (h7 0 y z))
    (fun y z => (ld4 x9 0 _ y z).trans (h9 0 y z))
    (fun z => (ld3 x14 0 _ z).trans (h14 0 z))
    (fun y z => (ld4 x7 1 _ y z).trans (h7 1 y z))
    (fun y z => (ld4 x9 1 _ y z).trans (h9 1 y z))
    (fun z => (ld3 x14 1 _ z).trans (h14 1 z))
    (fun y z => (ld4 x7 2 _ y z).trans (h7 2 y z))
    (fun y z => (ld4 x9 2 _ y z).trans (h9 2 y z))
    (fun z => (ld3 x14 2 _ z).trans (h14 2 z)) h d

end Cert.KernelIdeal.Value

end
-- ==== Proof.KernelBlocks.lean ====
/-
  THE KERNEL'S INPUT BLOCKS, over the extended reals: at grid point `t` every input window holds batch row `t` of the
  argument arrays (`blk0` … `blk14`), through the transposes, reshapes and the bit reinterpretation before the kernel.
-/
module

public import proofs.«01_k».proof.Proof.Block

@[expose] public section

set_option maxRecDepth 16384

noncomputable section

namespace Cert.KernelIdeal.Value

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- The second key cache as numbers: its bytes read as fp8 values. -/
def codes : Vec Ideal S96x1024x2x128 .fp8e4m3 :=
  bitcastToFloat (F := Ideal) .fp8e4m3 (m ((c : Thread nD τ).loc main_arg4) : Vec Ideal S96x1024x2x128 .i8)

/-- Dropping a unit second axis, at an index, at any sizes. -/
theorem drop_second {α : Type} {n0 n1 n2 : ℕ} (x : (⟨4, ![n0, 1, n1, n2]⟩ : Shape).Idx → α)
    (h : (⟨4, ![n0, 1, n1, n2]⟩ : Shape).ShapeCasts ⟨3, ![n0, n1, n2]⟩) (i : Fin n0) (j : Fin n1) (k : Fin n2) :
    shapeCast ⟨3, ![n0, n1, n2]⟩ x h (ix3 i j k) = x (ix4 i 0 j k) := by
  refine congrArg x (Shape.reshapeEquiv_eq_of_vals h _ _ _ _ (rowMajor_val4 _ (1 * (n1 * n2)) (n1 * n2) n2 rfl rfl rfl)
    (rowMajor_val3 _ (n1 * n2) n2 rfl rfl) ?_)
  simp

/-! ## What the lines before the kernel leave -/

/-- The kernel's operand for the first query factors. -/
theorem V_v9 : (V m c main_v9 : Vec Ideal S96x5x24 .bf16) =
    shapeCast S96x5x24 (m ((c : Thread nD τ).loc main_arg0))
      shapeCasts_S96x1x5x24_S96x5x24 := by
  show StableHlo.after hostOps0 _ (Proc.devRef .tc main_v9) = _
  after_results <;> rfl

/-- The kernel's operand for the second query factors. -/
theorem V_v10 : (V m c main_v10 : Vec Ideal S96x5x128 .bf16) =
    shapeCast S96x5x128 (m ((c : Thread nD τ).loc main_arg1))
      shapeCasts_S96x1x5x128_S96x5x128 := by
  show StableHlo.after hostOps0 _ (Proc.devRef .tc main_v10) = _
  after_results <;> rfl

/-- The kernel's operand for the keys' first factors. -/
theorem V_v1 : (V m c main_v1 : Vec Ideal S96x2x24x1024 .fp8e4m3) =
    transpose S96x2x24x1024 [0, 2, 3, 1] (m ((c : Thread nD τ).loc main_arg2))
      transposes_S96x1024x2x24_S96x2x24x1024_0_2_3_1 := by
  show StableHlo.after hostOps0 _ (Proc.devRef .tc main_v1) = _
  after_results <;> rfl

/-- The kernel's operand for the keys' first scales. -/
theorem V_v5 : (V m c main_v5 : Vec Ideal S96x1x1024 .f32) =
    shapeCast S96x1x1024 (m ((c : Thread nD τ).loc main_arg3))
      shapeCasts_S96x1024_S96x1x1024 := by
  show StableHlo.after hostOps0 _ (Proc.devRef .tc main_v5) = _
  after_results <;> rfl

/-- The kernel's operand for the keys' second factors, as numbers. -/
theorem V_v2 : (V m c main_v2 : Vec Ideal S96x2x1024x128 .fp8e4m3) =
    transpose S96x2x1024x128 [0, 2, 1, 3] (codes m c)
      transposes_S96x1024x2x128_S96x2x1024x128_0_2_1_3 := by
  show StableHlo.after hostOps0 _ (Proc.devRef .tc main_v2) = _
  after_results <;> rfl

/-- The kernel's operand for the keys' second scales. -/
theorem V_v6 : (V m c main_v6 : Vec Ideal S96x1x1024 .f32) =
    shapeCast S96x1x1024 (m ((c : Thread nD τ).loc main_arg5))
      shapeCasts_S96x1024_S96x1x1024 := by
  show StableHlo.after hostOps0 _ (Proc.devRef .tc main_v6) = _
  after_results <;> rfl

/-- The kernel's operand for the values' first factors. -/
theorem V_v3 : (V m c main_v3 : Vec Ideal S96x3x24x1024 .fp8e4m3) =
    transpose S96x3x24x1024 [0, 2, 3, 1] (m ((c : Thread nD τ).loc main_arg6))
      transposes_S96x1024x3x24_S96x3x24x1024_0_2_3_1 := by
  show StableHlo.after hostOps0 _ (Proc.devRef .tc main_v3) = _
  after_results <;> rfl

/-- The kernel's operand for the values' first scales. -/
theorem V_v7 : (V m c main_v7 : Vec Ideal S96x1x1024 .f32) =
    shapeCast S96x1x1024 (m ((c : Thread nD τ).loc main_arg7))
      shapeCasts_S96x1024_S96x1x1024 := by
  show StableHlo.after hostOps0 _ (Proc.devRef .tc main_v7) = _
  after_results <;> rfl

/-- The kernel's operand for the values' second factors. -/
theorem V_v4 : (V m c main_v4 : Vec Ideal S96x3x1024x128 .fp8e4m3) =
    transpose S96x3x1024x128 [0, 2, 1, 3] (m ((c : Thread nD τ).loc main_arg8))
      transposes_S96x1024x3x128_S96x3x1024x128_0_2_1_3 := by
  show StableHlo.after hostOps0 _ (Proc.devRef .tc main_v4) = _
  after_results <;> rfl

/-- The kernel's operand for the values' second scales. -/
theorem V_v8 : (V m c main_v8 : Vec Ideal S96x1x1024 .f32) =
    shapeCast S96x1x1024 (m ((c : Thread nD τ).loc main_arg9))
      shapeCasts_S96x1024_S96x1x1024 := by
  show StableHlo.after hostOps0 _ (Proc.devRef .tc main_v8) = _
  after_results <;> rfl

/-! ## The blocks -/

/-- Which block of its array every window holds at a point: the point's own batch, all of the batch lengths. -/
theorem idx : ∀ t : Fin cfg0.N, win0_0.index t = ![0]
    ∧ win0_1.index t = ![t.val, 0, 0]
    ∧ win0_2.index t = ![t.val, 0, 0]
    ∧ win0_3.index t = ![t.val, 0, 0, 0]
    ∧ win0_4.index t = ![t.val, 0, 0]
    ∧ win0_5.index t = ![t.val, 0, 0, 0]
    ∧ win0_6.index t = ![t.val, 0, 0]
    ∧ win0_7.index t = ![t.val, 0, 0, 0]
    ∧ win0_8.index t = ![t.val, 0, 0]
    ∧ win0_9.index t = ![t.val, 0, 0, 0]
    ∧ win0_10.index t = ![t.val, 0, 0]
    ∧ win0_11.index t = ![t.val, 0, 0]
    ∧ win0_12.index t = ![t.val, 0, 0]
    ∧ win0_13.index t = ![t.val, 0, 0]
    ∧ win0_14.index t = ![t.val, 0, 0]
    ∧ win0_15.index t = ![t.val, 0, 0] :=
  (by decide +kernel : ∀ t : Fin grid0.N, _)

variable (t : Fin cfg0.N) (b : Fin 96) (hb : t.val = b.val)

/-- The first block holds all batch lengths. -/
theorem blk0 : iblk m c 0 t (ix1 b) = m ((c : Thread nD τ).loc main_arg10) (ix1 b) := by
  rw [← V_main_arg10 m c]
  blk_ext [iblk, idx t]

include hb

/-- Block 1 holds the batch's row of the first query factors. -/
theorem blk1 (r : Fin 5) (h : Fin 24) : iblk m c 1 t (ix3 0 r h) = m ((c : Thread nD τ).loc main_arg0) (ix4 b 0 r h) := by
  have e : iblk m c 1 t (ix3 0 r h) = V m c main_v9 (ix3 b r h) := by blk_ext [iblk, idx t]
  refine e.trans ((congrFun (V_v9 m c) _).trans ?_)
  exact drop_second _ _ _ _ _

/-- Block 2 holds the batch's row of the second query factors. -/
theorem blk2 (r : Fin 5) (d : Fin 128) : iblk m c 2 t (ix3 0 r d) = m ((c : Thread nD τ).loc main_arg1) (ix4 b 0 r d) := by
  have e : iblk m c 2 t (ix3 0 r d) = V m c main_v10 (ix3 b r d) := by blk_ext [iblk, idx t]
  refine e.trans ((congrFun (V_v10 m c) _).trans ?_)
  exact drop_second _ _ _ _ _

/-- Block 3 holds the batch's row of the keys' first factors. -/
theorem blk3 (k : Fin 2) (h : Fin 24) (y : Fin 1024) : iblk m c 3 t (ix4 0 k h y) = m ((c : Thread nD τ).loc main_arg2) (ix4 b y k h) := by
  have e : iblk m c 3 t (ix4 0 k h y) = V m c main_v1 (ix4 b k h y) := by blk_ext [iblk, idx t]
  refine e.trans ((congrFun (V_v1 m c) _).trans ?_)
  pointwise []

/-- Block 4 holds the batch's row of the keys' first scales. -/
theorem blk4 (y : Fin 1024) : iblk m c 4 t (ix3 0 0 y) = m ((c : Thread nD τ).loc main_arg3) (ix2 b y) := by
  have e : iblk m c 4 t (ix3 0 0 y) = V m c main_v5 (ix3 b 0 y) := by blk_ext [iblk, idx t]
  refine e.trans ((congrFun (V_v5 m c) _).trans ?_)
  pointwise []

/-- Block 5 holds the batch's row of the keys' second factors, as numbers. -/
theorem blk5 (k : Fin 2) (y : Fin 1024) (d : Fin 128) : iblk m c 5 t (ix4 0 k y d) = codes m c (ix4 b y k d) := by
  have e : iblk m c 5 t (ix4 0 k y d) = V m c main_v2 (ix4 b k y d) := by blk_ext [iblk, idx t]
  refine e.trans ((congrFun (V_v2 m c) _).trans ?_)
  pointwise []

/-- Block 6 holds the batch's row of the keys' second scales. -/
theorem blk6 (y : Fin 1024) : iblk m c 6 t (ix3 0 0 y) = m ((c : Thread nD τ).loc main_arg5) (ix2 b y) := by
  have e : iblk m c 6 t (ix3 0 0 y) = V m c main_v6 (ix3 b 0 y) := by blk_ext [iblk, idx t]
  refine e.trans ((congrFun (V_v6 m c) _).trans ?_)
  pointwise []

/-- Block 7 holds the batch's row of the values' first factors. -/
theorem blk7 (r : Fin 3) (h : Fin 24) (y : Fin 1024) : iblk m c 7 t (ix4 0 r h y) = m ((c : Thread nD τ).loc main_arg6) (ix4 b y r h) := by
  have e : iblk m c 7 t (ix4 0 r h y) = V m c main_v3 (ix4 b r h y) := by blk_ext [iblk, idx t]
  refine e.trans ((congrFun (V_v3 m c) _).trans ?_)
  pointwise []

/-- Block 8 holds the batch's row of the values' first scales. -/
theorem blk8 (y : Fin 1024) : iblk m c 8 t (ix3 0 0 y) = m ((c : Thread nD τ).loc main_arg7) (ix2 b y) := by
  have e : iblk m c 8 t (ix3 0 0 y) = V m c main_v7 (ix3 b 0 y) := by blk_ext [iblk, idx t]
  refine e.trans ((congrFun (V_v7 m c) _).trans ?_)
  pointwise []

/-- Block 9 holds the batch's row of the values' second factors. -/
theorem blk9 (r : Fin 3) (y : Fin 1024) (d : Fin 128) : iblk m c 9 t (ix4 0 r y d) = m ((c : Thread nD τ).loc main_arg8) (ix4 b y r d) := by
  have e : iblk m c 9 t (ix4 0 r y d) = V m c main_v4 (ix4 b r y d) := by blk_ext [iblk, idx t]
  refine e.trans ((congrFun (V_v4 m c) _).trans ?_)
  pointwise []

/-- Block 10 holds the batch's row of the values' second scales. -/
theorem blk10 (y : Fin 1024) : iblk m c 10 t (ix3 0 0 y) = m ((c : Thread nD τ).loc main_arg9) (ix2 b y) := by
  have e : iblk m c 10 t (ix3 0 0 y) = V m c main_v8 (ix3 b 0 y) := by blk_ext [iblk, idx t]
  refine e.trans ((congrFun (V_v8 m c) _).trans ?_)
  pointwise []

/-- Block 11 holds the batch's row of the new key's first factors. -/
theorem blk11 (k : Fin 2) (h : Fin 24) : iblk m c 11 t (ix3 0 k h) = m ((c : Thread nD τ).loc main_arg11) (ix3 b k h) := by
  rw [← V_main_arg11 m c]
  blk_ext [iblk, idx t]

/-- Block 12 holds the batch's row of the new key's second factors. -/
theorem blk12 (k : Fin 2) (d : Fin 128) : iblk m c 12 t (ix3 0 k d) = m ((c : Thread nD τ).loc main_arg12) (ix3 b k d) := by
  rw [← V_main_arg12 m c]
  blk_ext [iblk, idx t]

/-- Block 13 holds the batch's row of the new value's first factors. -/
theorem blk13 (r : Fin 3) (h : Fin 24) : iblk m c 13 t (ix3 0 r h) = m ((c : Thread nD τ).loc main_arg13) (ix3 b r h) := by
  rw [← V_main_arg13 m c]
  blk_ext [iblk, idx t]

/-- Block 14 holds the batch's row of the new value's second factors. -/
theorem blk14 (r : Fin 3) (d : Fin 128) : iblk m c 14 t (ix3 0 r d) = m ((c : Thread nD τ).loc main_arg14) (ix3 b r d) := by
  rw [← V_main_arg14 m c]
  blk_ext [iblk, idx t]

end Cert.KernelIdeal.Value

end
-- ==== Proof.KernelRun.lean ====
/-
  THE KERNEL'S RUN, over the extended reals: at real queries the kernel's result array holds the attention value of
  every batch row (`flushed_eq`), and the program's result is that array reshaped, its arguments unchanged (`run`).
-/
module

public import proofs.«01_k».proof.Proof.KernelBlocks
public import Idealize.ShloMosaic.Lib.Claim

@[expose] public section

set_option maxRecDepth 16384

noncomputable section

namespace Cert.KernelIdeal.Value

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- Batch row `b` of the argument arrays, the second key cache read as numbers. -/
def argRow (b : Fin 96) : Row where
  xa r h := m ((c : Thread nD τ).loc main_arg0) (ix4 b 0 r h)
  xb r d := m ((c : Thread nD τ).loc main_arg1) (ix4 b 0 r d)
  ak k h t := m ((c : Thread nD τ).loc main_arg2) (ix4 b t k h)
  aks t := m ((c : Thread nD τ).loc main_arg3) (ix2 b t)
  bk k t d := codes m c (ix4 b t k d)
  bks t := m ((c : Thread nD τ).loc main_arg5) (ix2 b t)
  av r h t := m ((c : Thread nD τ).loc main_arg6) (ix4 b t r h)
  avs t := m ((c : Thread nD τ).loc main_arg7) (ix2 b t)
  bv r t d := m ((c : Thread nD τ).loc main_arg8) (ix4 b t r d)
  bvs t := m ((c : Thread nD τ).loc main_arg9) (ix2 b t)
  len := m ((c : Thread nD τ).loc main_arg10) (ix1 b)
  akn k h := m ((c : Thread nD τ).loc main_arg11) (ix3 b k h)
  bkn k d := m ((c : Thread nD τ).loc main_arg12) (ix3 b k d)
  avn r h := m ((c : Thread nD τ).loc main_arg13) (ix3 b r h)
  bvn r d := m ((c : Thread nD τ).loc main_arg14) (ix3 b r d)

/-- The array of attention values, one row of heads and features a batch. -/
def attn : Vec Ideal S96x24x128 .bf16 := fun i => kOut (argRow m c (i 0)) (i 1) (i 2)

/-- Grid point `t` has coordinate `t`. -/
theorem coords : ∀ t : Fin cfg0.N, (grid0.coords t 0 : ℕ) = t.val :=
  (by decide +kernel : ∀ t : Fin grid0.N, (grid0.coords t 0 : ℕ) = t.val)

/-- The kernel's result block at grid point `t` is batch row `t` of the attention values. -/
theorem outs_apply (t : Fin cfg0.N) (b : Fin 96) (hb : (t : ℕ) = b)
    (hxa : ∀ r h, IsReal ((argRow m c b).xa r h)) (hxb : ∀ r d, IsReal ((argRow m c b).xb r d)) (h : Fin 24) (d : Fin 128) :
    outsAt0 m c t (ix3 0 h d) = kOut (argRow m c b) h d := by
  unfold outsAt0
  refine out_apply c (grid0.coords t) _ _ _ _ _ _ _ _ _ _ _ _ _ _ _ _ _ _ _ _ _ _ _ _ _ _ _ _ _ _ _ _
    _ _ _ _ _ _ _ _ _ _ _ _ _ _ _ (argRow m c b) hxa hxb b ((coords t).trans hb) (blk0 m c t b)
    (blk1 m c t b hb) (blk2 m c t b hb) (blk3 m c t b hb) (blk4 m c t b hb) (blk5 m c t b hb) (blk6 m c t b hb)
    (blk7 m c t b hb) (blk8 m c t b hb) (blk9 m c t b hb) (blk10 m c t b hb) (blk11 m c t b hb) (blk12 m c t b hb)
    (blk13 m c t b hb) (blk14 m c t b hb) h d

/-- At real queries the kernel's result array ends holding the attention values. -/
theorem flushed_eq (hxa : ∀ b r h, IsReal ((argRow m c b).xa r h)) (hxb : ∀ b r d, IsReal ((argRow m c b).xb r d)) :
    (dats m 0 c).arrAt 15 cfg0.N = attn m c := by
  refine (dats m 0 c).arrAt_eq_of_covers 15 _ (by decide +kernel) fun t hf y => ?_
  blk_simp
  rw [after0_15]
  have hN : cfg0.N = 96 := N_0
  have ht : t.val < 96 := hN ▸ t.isLt
  have ey : (y : S1x24x128.Idx) = ix3 0 (y 1) (y 2) := by
    funext a
    match a with
    | ⟨0, _⟩ => exact Fin.ext (Nat.lt_one_iff.mp (y 0).isLt)
    | ⟨1, _⟩ => rfl
    | ⟨2, _⟩ => rfl
  have eb : (win0_15.blk t).view.emb y = ix3 (⟨t.val, ht⟩ : Fin 96) (y 1) (y 2) := by
    blk_ext [idx t]
  rw [eb]
  refine (congrArg (outsAt0 m c t) ey).trans ?_
  exact outs_apply m c t ⟨t.val, ht⟩ rfl (hxa _) (hxb _) _ _

/-- The program's result buffer: the kernel's result array, reshaped. -/
theorem tail_main_v12 : Pipeline.afterTail₀ cfgs (dats m) 0 (V0 m) [hostOps1] c main_v12
    = shapeCast S96x1x3072 ((dats m 0 c).arrAt 15 cfg0.N) shapeCasts_S96x24x128_S96x1x3072 := by
  rw [← Pipeline.withArrays_arr spec0 launch0.win.arr_inj c (V0 m c) (fun w => (dats m 0 c).arrAt w cfg0.N) 15]
  rfl

/-- At real queries the program ends with the attention values reshaped in its result, its arguments unchanged. -/
theorem run (ρ : Dev nD → PrngReg) (hxa : ∀ c b r h, IsReal ((argRow m c b).xa r h)) (hxb : ∀ c b r d, IsReal ((argRow m c b).xb r d)) :
    θ_run defs (onTc (τ := τ) (main (F := Ideal))) ⟨m, fun _ => 0, ρ⟩ fun r => ∀ c : Dev nD,
      r.2.mem ((c.tc : Thread nD τ).loc main_v12) = shapeCast S96x1x3072 (attn m c) shapeCasts_S96x24x128_S96x1x3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h.1 c).2 main_v12 (Pipeline.mem_restRefs_of main_v12 (by decide) (by decide))).trans
      ((tail_main_v12 m c).trans (by rw [flushed_eq m c (hxa c) (hxb c)])), h.2 c⟩)
    (θ_run_and (run_main m ρ) (frame_of m ρ (dats m) (A_eq m) (run_main m ρ)))

end Cert.KernelIdeal.Value

end
-- ==== Proof.RefValue.lean ====
/-
  THE REFERENCE AT AN INDEX, over the extended reals: the result read down to `Cert.Attn.rOut` of the batch row its operands
  hold (`mean_apply`), for any contents `r0` … `r3` of the decoded caches.
-/
module

public import proofs.«01_k».proof.Proof.Gen.ReferenceIdeal.Read
public import proofs.«01_k».proof.Proof.Spec

@[expose] public section

set_option maxRecDepth 16384

noncomputable section

namespace Cert.ReferenceIdeal.Read

open Cert.ReferenceIdeal Cert.ReferenceIdeal.Gen Cert.Attn Idealize.ShloMosaic

variable (x0 : (⟨S96x1x5x24, .bf16⟩ : BufTy).Contents (Elt Ideal)) (x1 : (⟨S96x1x5x128, .bf16⟩ : BufTy).Contents (Elt Ideal))
  (x3 x5 x7 x9 : (⟨S96x1024, .f32⟩ : BufTy).Contents (Elt Ideal)) (x10 : (⟨S96, .i32⟩ : BufTy).Contents (Elt Ideal))
  (x11 : (⟨S96x2x24, .bf16⟩ : BufTy).Contents (Elt Ideal)) (x12 : (⟨S96x2x128, .bf16⟩ : BufTy).Contents (Elt Ideal))
  (x13 : (⟨S96x3x24, .bf16⟩ : BufTy).Contents (Elt Ideal)) (x14 : (⟨S96x3x128, .bf16⟩ : BufTy).Contents (Elt Ideal))
  (r0 : (⟨S96x1024x2x24, .f32⟩ : BufTy).Contents (Elt Ideal)) (r1 : (⟨S96x1024x2x128, .bf16⟩ : BufTy).Contents (Elt Ideal))
  (r2 : (⟨S96x1024x3x24, .f32⟩ : BufTy).Contents (Elt Ideal)) (r3 : (⟨S96x1024x3x128, .bf16⟩ : BufTy).Contents (Elt Ideal))
  (b : Fin 96) (h : Fin 24) (t : Fin 1024) (d : Fin 128)

/-- Batch row `b` of the operands, the caches at their decoded contents. -/
def row : Row where
  xa r h := x0 (ix4 b 0 r h)
  xb r d := x1 (ix4 b 0 r d)
  ak k h t := r0 (ix4 b t k h)
  aks t := x3 (ix2 b t)
  bk k t d := r1 (ix4 b t k d)
  bks t := x5 (ix2 b t)
  av r h t := r2 (ix4 b t r h)
  avs t := x7 (ix2 b t)
  bv r t d := r3 (ix4 b t r d)
  bvs t := x9 (ix2 b t)
  len := x10 (ix1 b)
  akn k h := x11 (ix3 b k h)
  bkn k d := x12 (ix3 b k d)
  avn r h := x13 (ix3 b r h)
  bvn r d := x14 (ix3 b r d)

/-- A maximum over the last of three axes, at an index, at any sizes. -/
theorem hostMax_last {n0 n1 n2 : ℕ} (v : FVec Ideal (⟨3, ![n0, n1, n2]⟩ : Shape) .f32) (c : FVec Ideal S_ .f32)
    (h : (⟨3, ![n0, n1, n2]⟩ : Shape).ReducesTo [2] (⟨2, ![n0, n1]⟩ : Shape)) (hu : 0 < S_.numel) (b : Fin n0) (k : Fin n1) :
    Host.reduce FloatOps.maximumf v c h hu (ix2 b k)
      = Finset.univ.fold max (c (Shape.Idx.first hu)) (fun t : Fin n2 => v (ix3 b k t)) := by
  pointwise []

/-- The largest score of a batch and head, over any array of scores. -/
theorem fold_apply (y : FVec Ideal S96x24x1024 .f32) (b : Fin 96) (h : Fin 24) :
    Host.reduce FloatOps.maximumf y (constant (F := Ideal) S_ .f32 0xFF800000#32) reducesTo_S96x24x1024_S96x24_d2 h_S_ (ix2 b h)
      = Finset.univ.fold max fill (fun t => y (ix3 b h t)) :=
  hostMax_last y (constant (F := Ideal) S_ .f32 0xFF800000#32) reducesTo_S96x24x1024_S96x24_d2 h_S_ b h

/-- The scores. -/
theorem score_apply : val_main_v13 (F := Ideal) x0 x1 x3 x5 r0 r1 (ix3 b h t) = rScore (row x0 x1 x3 x5 x7 x9 x10 x11 x12 x13 x14 r0 r1 r2 r3 b) h t := by
  pointwise [val_main_v13, val_main_v12, val_main_cst, val_main_v11, val_main_v10, val_main_v9, val_main_v8, val_main_v7,
    val_main_v6, val_main_v5, val_main_v4, val_main_v3, val_main_v2]
  rfl

/-- The masked scores. -/
theorem masked_apply : val_main_v21 (F := Ideal) x0 x1 x3 x5 x10 r0 r1 (ix3 b h t) = masked (row x0 x1 x3 x5 x7 x9 x10 x11 x12 x13 x14 r0 r1 r2 r3 b).len (rScore (row x0 x1 x3 x5 x7 x9 x10 x11 x12 x13 x14 r0 r1 r2 r3 b) h) t := by
  have e := score_apply x0 x1 x3 x5 x7 x9 x10 x11 x12 x13 x14 r0 r1 r2 r3 b h t
  pointwise [val_main_v21, val_main_call0_v1, val_main_call0_v2, val_main_call0_v0, val_main_cst_0, val_main_v20, val_main_v19,
    val_main_v18, val_main_v17, val_main_v16, val_main_v15, val_main_v14]
  rw [e]
  rfl

/-- The new token's score. -/
theorem new_apply : val_main_v27 (F := Ideal) x0 x1 x11 x12 (ix2 b h) = rNew (row x0 x1 x3 x5 x7 x9 x10 x11 x12 x13 x14 r0 r1 r2 r3 b) h := by
  pointwise [val_main_v27, val_main_v26, val_main_cst_1, val_main_v25, val_main_v24, val_main_v23, val_main_v22, val_main_v4,
    val_main_v3, val_main_v2]
  rfl

/-- The largest score, the new token's included. -/
theorem peak_apply : val_main_v29 (F := Ideal) x0 x1 x3 x5 x10 x11 x12 r0 r1 (ix2 b h) =
    peak (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) := by
  have e := masked_apply x0 x1 x3 x5 x7 x9 x10 x11 x12 x13 x14 r0 r1 r2 r3 b h
  have e' := new_apply x0 x1 x3 x5 x7 x9 x10 x11 x12 x13 x14 r0 r1 r2 r3 b h
  rw [val_main_v29_apply, Ideal.maximumf_eq_max, e']
  unfold val_main_v28 val_main_cst_2
  rw [fold_apply]
  simp only [e]
  rfl

/-- The cached positions' weights. -/
theorem weight_apply : val_main_v33 (F := Ideal) x0 x1 x3 x5 x10 x11 x12 r0 r1 (ix3 b h t) =
    weight (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) t := by
  have e := masked_apply x0 x1 x3 x5 x7 x9 x10 x11 x12 x13 x14 r0 r1 r2 r3 b h t
  have e' := peak_apply x0 x1 x3 x5 x7 x9 x10 x11 x12 x13 x14 r0 r1 r2 r3 b h
  pointwise [val_main_v33, val_main_v32, val_main_v31, val_main_v30]
  rw [e, e']
  rfl

/-- The new token's weight. -/
theorem newWeight_apply : val_main_v35 (F := Ideal) x0 x1 x3 x5 x10 x11 x12 r0 r1 (ix2 b h) =
    newWeight (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) := by
  have e := new_apply x0 x1 x3 x5 x7 x9 x10 x11 x12 x13 x14 r0 r1 r2 r3 b h
  have e' := peak_apply x0 x1 x3 x5 x7 x9 x10 x11 x12 x13 x14 r0 r1 r2 r3 b h
  pointwise [val_main_v35, val_main_v34]
  rw [e, e']
  rfl

/-- The reciprocal of the weights' sum. -/
theorem norm_apply : val_main_v39 (F := Ideal) x0 x1 x3 x5 x10 x11 x12 r0 r1 (ix2 b h) =
    norm (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) := by
  have e := weight_apply x0 x1 x3 x5 x7 x9 x10 x11 x12 x13 x14 r0 r1 r2 r3 b h
  have e' := newWeight_apply x0 x1 x3 x5 x7 x9 x10 x11 x12 x13 x14 r0 r1 r2 r3 b h
  pointwise [val_main_v39, val_main_v38, val_main_cst_4, val_main_v37, val_main_v36, val_main_cst_3]
  simp only [e, e']
  rfl

/-- One weighted value factor. -/
theorem term_apply (r : Fin 3) : val_main_v52 (F := Ideal) x0 x1 x3 x5 x7 x9 x10 x11 x12 r0 r1 r2 (ix4 b h t r) * r3 (ix4 b t r d) =
    term (row x0 x1 x3 x5 x7 x9 x10 x11 x12 x13 x14 r0 r1 r2 r3 b) (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) h d r t := by
  have e := weight_apply x0 x1 x3 x5 x7 x9 x10 x11 x12 x13 x14 r0 r1 r2 r3 b h t
  have e' := norm_apply x0 x1 x3 x5 x7 x9 x10 x11 x12 x13 x14 r0 r1 r2 r3 b h
  pointwise [val_main_v52, val_main_v51, val_main_v50, val_main_v49, val_main_v48, val_main_v47, val_main_v46, val_main_v45,
    val_main_v44, val_main_v42, val_main_v41, val_main_v40]
  rw [e, e']
  rfl

/-- The new token's contribution. -/
theorem fresh_apply : val_main_v59 (F := Ideal) x0 x1 x3 x5 x10 x11 x12 x13 x14 r0 r1 (ix3 b h d) =
    ∑ r, fresh (row x0 x1 x3 x5 x7 x9 x10 x11 x12 x13 x14 r0 r1 r2 r3 b) (masked (row x0 x1 x3 x5 x7 x9 x10 x11 x12 x13 x14 r0 r1 r2 r3 b).len (rScore (row x0 x1 x3 x5 x7 x9 x10 x11 x12 x13 x14 r0 r1 r2 r3 b) h)) (rNew (row x0 x1 x3 x5 x7 x9 x10 x11 x12 x13 x14 r0 r1 r2 r3 b) h) h d r := by
  have e := newWeight_apply x0 x1 x3 x5 x7 x9 x10 x11 x12 x13 x14 r0 r1 r2 r3 b h
  have e' := norm_apply x0 x1 x3 x5 x7 x9 x10 x11 x12 x13 x14 r0 r1 r2 r3 b h
  pointwise [val_main_v59, val_main_v58, val_main_v57, val_main_v56, val_main_v55, val_main_v54, val_main_v43]
  simp only [e, e']
  rfl

/-- The mean over the value factors, before it is flattened. -/
theorem mean_apply : val_main_v62 (F := Ideal) x0 x1 x3 x5 x7 x9 x10 x11 x12 x13 x14 r0 r1 r2 r3 (ix3 b h d) = rOut (row x0 x1 x3 x5 x7 x9 x10 x11 x12 x13 x14 r0 r1 r2 r3 b) h d := by
  have e := term_apply x0 x1 x3 x5 x7 x9 x10 x11 x12 x13 x14 r0 r1 r2 r3 b h
  have e' := fresh_apply x0 x1 x3 x5 x7 x9 x10 x11 x12 x13 x14 r0 r1 r2 r3 b h d
  pointwise [val_main_v62, val_main_v61, val_main_cst_5, val_main_v60, val_main_v53]
  simp only [e, e', rOut, rSum]
  rw [Finset.sum_comm]

end Cert.ReferenceIdeal.Read

end
-- ==== Proof.Decode.lean ====
/-
  THE REFERENCE'S DECODING, over the extended reals: the four arrays its first region leaves are the four code arrays
  themselves (a change of format keeps the number), the second key cache its bytes read as fp8 values.
-/
module

public import proofs.«01_k».proof.Proof.RefValue
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Decode

open Cert.ReferenceIdeal Cert.ReferenceIdeal.Gen Cert.ReferenceIdeal.Value Cert.Attn Idealize.ShloMosaic Idealize.ShloMosaic.TcCoe Idealize.SL.Sem
open Idealize.ShloMosaic.Pipeline (Dat)

variable (m : (ℓ : Loc nD τ sig) → Buf (Elt Ideal) ℓ) (c : Dev nD)

/-- The second key cache as numbers: its bytes read as fp8 values. -/
def codes : Vec Ideal S96x1024x2x128 .fp8e4m3 :=
  bitcastToFloat (F := Ideal) .fp8e4m3 (m ((c : Thread nD τ).loc main_arg4) : Vec Ideal S96x1024x2x128 .i8)

/-- The buffer the second key cache's numbers are put in holds them when the region starts. -/
theorem V_v0 : V m c main_v0 = codes m c := by
  show StableHlo.after hostOps0 _ (Proc.devRef .tc main_v0) = _
  after_results <;> rfl

/-- Every window's block index at the one point. -/
theorem idx : ∀ t : Fin cfg0.N, win0_0.index t = ![0, 0, 0, 0] ∧ win0_1.index t = ![0, 0, 0, 0]
    ∧ win0_2.index t = ![0, 0, 0, 0] ∧ win0_3.index t = ![0, 0, 0, 0] :=
  (by decide +kernel : ∀ t : Fin grid0.N, _)

/-- The first input block is its whole array. -/
theorem iblk0 : iblk m c 0 t0_0 = m ((c : Thread nD τ).loc main_arg2) := by
  rw [← V_main_arg2 m c]
  blk_ext! [iblk, idx t0_0]

/-- The second input block is its whole array. -/
theorem iblk1 : iblk m c 1 t0_0 = codes m c := by
  rw [← V_v0 m c]
  blk_ext! [iblk, idx t0_0]

/-- The third input block is its whole array. -/
theorem iblk2 : iblk m c 2 t0_0 = m ((c : Thread nD τ).loc main_arg6) := by
  rw [← V_main_arg6 m c]
  blk_ext! [iblk, idx t0_0]

/-- The fourth input block is its whole array. -/
theorem iblk3 : iblk m c 3 t0_0 = m ((c : Thread nD τ).loc main_arg8) := by
  rw [← V_main_arg8 m c]
  blk_ext! [iblk, idx t0_0]

/-- The first decoded array holds the first key cache's numbers. -/
theorem reg0 (j : S96x1024x2x24.Idx) : reg_main_v1_0 m c j = m ((c : Thread nD τ).loc main_arg2) j := by
  refine congrFun ((dats m 0 c).arrAt_eq_of_after_last 4 t0_0 (by decide +kernel)
    (fun j => (m ((c : Thread nD τ).loc main_arg2) j : EReal)) fun j => ?_) j
  blk_simp
  rw [after0_4]
  frame_out
  rw [iblk0]
  rfl

/-- The second decoded array holds the second key cache's numbers. -/
theorem reg1 (j : S96x1024x2x128.Idx) : reg_main_v1_1 m c j = codes m c j := by
  refine congrFun ((dats m 0 c).arrAt_eq_of_after_last 5 t0_0 (by decide +kernel)
    (fun j => (codes m c j : EReal)) fun j => ?_) j
  blk_simp
  rw [after0_5]
  frame_out
  rw [iblk1]
  unfold k0_pay2
  rw [shapeCast_self]
  rfl

/-- The third decoded array holds the first value cache's numbers. -/
theorem reg2 (j : S96x1024x3x24.Idx) : reg_main_v1_2 m c j = m ((c : Thread nD τ).loc main_arg6) j := by
  refine congrFun ((dats m 0 c).arrAt_eq_of_after_last 6 t0_0 (by decide +kernel)
    (fun j => (m ((c : Thread nD τ).loc main_arg6) j : EReal)) fun j => ?_) j
  blk_simp
  rw [after0_6]
  frame_out
  rw [iblk2]
  rfl

/-- The fourth decoded array holds the second value cache's numbers. -/
theorem reg3 (j : S96x1024x3x128.Idx) : reg_main_v1_3 m c j = m ((c : Thread nD τ).loc main_arg8) j := by
  refine congrFun ((dats m 0 c).arrAt_eq_of_after_last 7 t0_0 (by decide +kernel)
    (fun j => (m ((c : Thread nD τ).loc main_arg8) j : EReal)) fun j => ?_) j
  blk_simp
  rw [after0_7]
  frame_out
  rw [iblk3]
  rfl

/-- Batch row `b` of the argument arrays, the second key cache read as numbers. -/
def argRow (b : Fin 96) : Row where
  xa r h := m ((c : Thread nD τ).loc main_arg0) (ix4 b 0 r h)
  xb r d := m ((c : Thread nD τ).loc main_arg1) (ix4 b 0 r d)
  ak k h t := m ((c : Thread nD τ).loc main_arg2) (ix4 b t k h)
  aks t := m ((c : Thread nD τ).loc main_arg3) (ix2 b t)
  bk k t d := codes m c (ix4 b t k d)
  bks t := m ((c : Thread nD τ).loc main_arg5) (ix2 b t)
  av r h t := m ((c : Thread nD τ).loc main_arg6) (ix4 b t r h)
  avs t := m ((c : Thread nD τ).loc main_arg7) (ix2 b t)
  bv r t d := m ((c : Thread nD τ).loc main_arg8) (ix4 b t r d)
  bvs t := m ((c : Thread nD τ).loc main_arg9) (ix2 b t)
  len := m ((c : Thread nD τ).loc main_arg10) (ix1 b)
  akn k h := m ((c : Thread nD τ).loc main_arg11) (ix3 b k h)
  bkn k d := m ((c : Thread nD τ).loc main_arg12) (ix3 b k d)
  avn r h := m ((c : Thread nD τ).loc main_arg13) (ix3 b r h)
  bvn r d := m ((c : Thread nD τ).loc main_arg14) (ix3 b r d)

/-- The array of attention values, one row of heads and features a batch. -/
def attn : Vec Ideal S96x24x128 .f32 := fun i => rOut (argRow m c (i 0)) (i 1) (i 2)

/-- The row the later operations read, from the decoded arrays, is the row of the arguments. -/
theorem row_eq (b : Fin 96) :
    Read.row (m ((c : Thread nD τ).loc main_arg0)) (m ((c : Thread nD τ).loc main_arg1)) (m ((c : Thread nD τ).loc main_arg3))
      (m ((c : Thread nD τ).loc main_arg5)) (m ((c : Thread nD τ).loc main_arg7)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (reg_main_v1_0 m c) (reg_main_v1_1 m c)
      (reg_main_v1_2 m c) (reg_main_v1_3 m c) b = argRow m c b := by
  unfold Read.row argRow
  congr 1
  · funext k h t; exact reg0 m c _
  · funext k t d; exact reg1 m c _
  · funext r h t; exact reg2 m c _
  · funext r t d; exact reg3 m c _

/-- The later operations' array before the last reshape is the array of attention values. -/
theorem mean_eq : Read.val_main_v62 (F := Ideal) (m ((c : Thread nD τ).loc main_arg0)) (m ((c : Thread nD τ).loc main_arg1)) (m ((c : Thread nD τ).loc main_arg3))
      (m ((c : Thread nD τ).loc main_arg5)) (m ((c : Thread nD τ).loc main_arg7)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (reg_main_v1_0 m c) (reg_main_v1_1 m c)
      (reg_main_v1_2 m c) (reg_main_v1_3 m c) = attn m c := by
  funext i
  have ei : i = ix3 (i 0) (i 1) (i 2) := by
    funext a
    match a with
    | ⟨0, _⟩ => rfl
    | ⟨1, _⟩ => rfl
    | ⟨2, _⟩ => rfl
  rw [ei]
  refine (Read.mean_apply _ _ _ _ _ _ _ _ _ _ _ _ _ _ _ (i 0) (i 1) (i 2)).trans ?_
  exact congrArg (fun B => rOut B (i 1) (i 2)) (row_eq m c (i 0))

/-- The reference's result over the contents its region leaves is the array of attention values, reshaped. -/
theorem result_eq :
    Read.val_main_v64 (F := Ideal) (exitV m c (Proc.devRef .tc main_arg0)) (exitV m c (Proc.devRef .tc main_arg1))
      (exitV m c (Proc.devRef .tc main_arg3)) (exitV m c (Proc.devRef .tc main_arg5)) (exitV m c (Proc.devRef .tc main_arg7))
      (exitV m c (Proc.devRef .tc main_arg9)) (exitV m c (Proc.devRef .tc main_arg10)) (exitV m c (Proc.devRef .tc main_arg11))
      (exitV m c (Proc.devRef .tc main_arg12)) (exitV m c (Proc.devRef .tc main_arg13)) (exitV m c (Proc.devRef .tc main_arg14))
      (exitV m c (Proc.devRef .tc main_v1_0)) (exitV m c (Proc.devRef .tc main_v1_1)) (exitV m c (Proc.devRef .tc main_v1_2))
      (exitV m c (Proc.devRef .tc main_v1_3))
    = shapeCast S96x1x3072 (attn m c) shapeCasts_S96x24x128_S96x1x3072 := by
  rw [exit_main_arg0, exit_main_arg1, exit_main_arg3, exit_main_arg5, exit_main_arg7, exit_main_arg9, exit_main_arg10,
    exit_main_arg11, exit_main_arg12, exit_main_arg13, exit_main_arg14, exit_main_v1_0, exit_main_v1_1, exit_main_v1_2,
    exit_main_v1_3]
  unfold Read.val_main_v64 Read.val_main_v63
  rw [mean_eq]
  rfl

end Cert.ReferenceIdeal.Decode

end
-- ==== Proof.Finite.lean ====
/-
  THE PRECONDITION, over the extended reals: where it holds, the query factors and the new key's second factors are real
  numbers (`fn_real`), and so is the number each byte of the second key cache stands for.
-/
module

public import proofs.«01_k».proof.Proof.Spec
public import proofs.«01_k».proof.Pre_pre
public import Idealize.ShloMosaic.Lib.ReduceAll
public import Idealize.ShloMosaic.Lib.Affine
public import Idealize.ShloMosaic.Lib.Pointwise

@[expose] public section

set_option maxRecDepth 16384

noncomputable section

namespace Cert.Pre_pre

open Cert.Attn Idealize.ShloMosaic

/-- The precondition's side conditions hold. -/
theorem facts : Facts where
  bcast_S_S96x1x5x24 := by decide
  reducesTo_S96x1x5x24_S_d0_1_2_3 := by decide
  h_S_ := by decide
  bcast_S_S96x1x5x128 := by decide
  reducesTo_S96x1x5x128_S_d0_1_2_3 := by decide
  bcast_S_S96x1024x2x128 := by decide
  reducesTo_S96x1024x2x128_S_d0_1_2_3 := by decide
  bcast_S_S96x2x128 := by decide
  reducesTo_S96x2x128_S_d0_1_2 := by decide

/-- An extended real whose magnitude is below infinity is a real number. -/
theorem isReal_of_abs_lt (x : EReal) (h : max x (-x) < ⊤) : IsReal x := by
  induction x with
  | bot => simp at h
  | top => simp at h
  | coe r => exact ⟨r, rfl⟩

/-- A byte that is neither of the two NaN patterns stands for a real number. -/
theorem isReal_of_byte (b : BitVec 8) (h1 : b ≠ 127#8) (h2 : b ≠ 255#8) : IsReal (Ideal.ofBits .fp8e4m3 b) := by
  have hn : ¬((b.extractLsb' 3 4).toNat = 15 ∧ (b.extractLsb' 0 3).toNat = 7) := by
    revert b; decide
  show IsReal (Ideal.e4m3fn b)
  unfold Ideal.e4m3fn
  dsimp only
  rw [if_neg hn]
  split
  · exact ⟨_, rfl⟩
  · exact ⟨_, rfl⟩

/-- The pattern the precondition compares with stands for infinity. -/
theorem inf_eq : Ideal.ofBits .bf16 0x7F80#16 = ⊤ := by
  simp [Ideal.ofBits, Ideal.ieee]

/-- A comparison of a magnitude with infinity that came out true is of a real number. -/
theorem isReal_of_cmp (x : EReal) (h : Ideal.cmp .olt (max x (-x)) (Ideal.ofBits .bf16 0x7F80#16) = 1#1) : IsReal x := by
  rw [inf_eq] at h
  refine isReal_of_abs_lt x ?_
  unfold Ideal.cmp at h
  by_contra hn
  simp [hn] at h

/-- A scalar has one index. -/
instance : Subsingleton S_.Idx := ⟨fun a b => funext fun i => i.elim0⟩

variable [Facts]

/-- Where the precondition holds, both query factors and the new key's second factors are real numbers, and no byte of
    the second key cache is a NaN pattern. -/
theorem fn_real (x0 : FVec Ideal S96x1x5x24 .bf16) (x1 : FVec Ideal S96x1x5x128 .bf16) (x2 : FVec Ideal S96x1024x2x24 .fp8e4m3)
    (x3 : FVec Ideal S96x1024 .f32) (x4 : IVec S96x1024x2x128 8) (x5 : FVec Ideal S96x1024 .f32)
    (x6 : FVec Ideal S96x1024x3x24 .fp8e4m3) (x7 : FVec Ideal S96x1024 .f32) (x8 : FVec Ideal S96x1024x3x128 .fp8e4m3)
    (x9 : FVec Ideal S96x1024 .f32) (x10 : IVec S96 32) (x11 : FVec Ideal S96x2x24 .bf16) (x12 : FVec Ideal S96x2x128 .bf16)
    (x13 : FVec Ideal S96x3x24 .bf16) (x14 : FVec Ideal S96x3x128 .bf16)
    (h : fn (F := Ideal) x0 x1 x2 x3 x4 x5 x6 x7 x8 x9 x10 x11 x12 x13 x14 = fun _ => 1#1) :
    (∀ i, IsReal (x0 i)) ∧ (∀ i, IsReal (x1 i)) ∧ (∀ i, IsReal (Ideal.ofBits .fp8e4m3 (x4 i))) ∧ ∀ i, IsReal (x12 i) := by
  have h := congrFun h ix0
  dsimp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨fun i => isReal_of_cmp _ (Host.reduce_andi_all _ _ _ _ _ h1 i), fun i => isReal_of_cmp _ (Host.reduce_andi_all _ _ _ _ _ h2 i),
    fun i => isReal_of_byte _ (IntOp.cmpi_ne.1 (Host.reduce_andi_all _ _ _ _ _ h3 i))
      (IntOp.cmpi_ne.1 (Host.reduce_andi_all _ _ _ _ _ h4 i)),
    fun i => isReal_of_cmp _ (Host.reduce_andi_all _ _ _ _ _ h5 i)⟩

end Cert.Pre_pre

end
-- ==== Proof.Algebraic.lean ====
/-
  THE TWO IDEALIZED PROGRAMS AGREE, over the extended reals: where the precondition holds, the kernel's result and the
  reference's are the same array of attention values (`algebraic`).
-/
module

public import proofs.«01_k».proof.Defs
public import proofs.«01_k».proof.Proof.KernelRun
public import proofs.«01_k».proof.Proof.Decode
public import proofs.«01_k».proof.Proof.Finite
public import Idealize.ShloMosaic.Lib.Claim

@[expose] public section

set_option maxRecDepth 16384

noncomputable section

namespace Cert.Proof

open Cert.Attn Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal arguments have equal batch rows. -/
theorem argRow_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (b : Fin 96) :
    Cert.ReferenceIdeal.Decode.argRow m' c b = Cert.KernelIdeal.Value.argRow m c b := by
  unfold Cert.ReferenceIdeal.Decode.argRow Cert.KernelIdeal.Value.argRow
  congr 1
  · funext r h; exact congrFun h0 _
  · funext r d; exact congrFun h1 _
  · funext k h t; exact congrFun h2 _
  · funext t; exact congrFun h3 _
  · funext k t d; exact congrArg (Ideal.ofBits .fp8e4m3) (congrFun h4 _)
  · funext t; exact congrFun h5 _
  · funext r h t; exact congrFun h6 _
  · funext t; exact congrFun h7 _
  · funext r t d; exact congrFun h8 _
  · funext t; exact congrFun h9 _
  · exact congrFun h10 _
  · funext k h; exact congrFun h11 _
  · funext k d; exact congrFun h12 _
  · funext r h; exact congrFun h13 _
  · funext r d; exact congrFun h14 _

/-- Where the precondition holds, both idealized programs run and end with equal results, arguments unchanged. -/
theorem algebraic [Cert.Pre_pre.Facts] : Cert.algebraic_KernelIdeal_ReferenceIdeal_pre_pre := by
  intro m g m' g' hpre hargs
  have hreal := fun c => Cert.Pre_pre.fn_real _ _ _ _ _ _ _ _ _ _ _ _ _ _ _ (hpre c)
  refine ⟨fun c => shapeCast Cert.KernelIdeal.S96x1x3072 (Cert.KernelIdeal.Value.attn m c) Cert.KernelIdeal.Gen.shapeCasts_S96x24x128_S96x1x3072,
    Cert.KernelIdeal.Value.run m g (fun c b r h => (hreal c).1 _) (fun c b r d => (hreal c).2.1 _), ?_⟩
  refine (θ_run _ _ _).mono (fun r h c => ⟨(h c).1.trans ?_, (h c).2⟩) (Cert.ReferenceIdeal.Value.run m' g')
  obtain ⟨h0, h1, h2, h3, h4, h5, h6, h7, h8, h9, h10, h11, h12, h13, h14⟩ := hargs c
  refine (Cert.ReferenceIdeal.Read.val_main_v64_eq _).trans ((Cert.ReferenceIdeal.Decode.result_eq m' c).trans ?_)
  have e : Cert.ReferenceIdeal.Decode.attn m' c = Cert.KernelIdeal.Value.attn m c := by
    funext i
    refine (congrArg (fun B => rOut B (i 1) (i 2)) (argRow_eq m m' c h0 h1 h2 h3 h4 h5 h6 h7 h8 h9 h10 h11 h12 h13 h14 (i 0))).trans ?_
    exact (kOut_eq_rOut _ (fun r h => (hreal c).1 _) (fun r d => (hreal c).2.1 _) (fun k t d => (hreal c).2.2.1 _)
      (fun k d => (hreal c).2.2.2 _) (i 1) (i 2)).symm
  rw [e]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Algebraic

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts, Cert.Pre_pre.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    @algebraic Cert.Pre_pre.facts⟩

end Cert.Proof

end
